-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebooks [hPre_finite_codebooks : Cert.Pre_finite_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebooks [hPre_finite_codebooks : Cert.Pre_finite_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codebooks [hKernelIdeal : Cert.KernelIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebooks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codebooks [hReferenceIdeal : Cert.ReferenceIdeal.Facts] [hPre_finite_codebooks : Cert.Pre_finite_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_codebooks [hKernelIdeal : Cert.KernelIdeal.Facts] [hReferenceIdeal : Cert.ReferenceIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codebooks : Cert.Pre_finite_codebooks.Facts),
    quiescent_Kernel (hKernel := hKernel)
    ∧ quiescent_KernelIdeal (hKernelIdeal := hKernelIdeal)
    ∧ quiescent_KernelIdeal_pre_finite_codebooks (hKernelIdeal := hKernelIdeal) (hPre_finite_codebooks := hPre_finite_codebooks)
    ∧ quiescent_ReferenceIdeal (hReferenceIdeal := hReferenceIdeal)
    ∧ quiescent_ReferenceIdeal_pre_finite_codebooks (hReferenceIdeal := hReferenceIdeal) (hPre_finite_codebooks := hPre_finite_codebooks)
    ∧ preserves_Kernel_KernelIdeal
    ∧ algebraic_KernelIdeal_ReferenceIdeal_pre_finite_codebooks (hKernelIdeal := hKernelIdeal) (hReferenceIdeal := hReferenceIdeal) (hPre_finite_codebooks := hPre_finite_codebooks)
-- ==== Pre_finite_codebooks.lean ====
abbrev S32768x64 : Shape := ⟨2, ![32768, 64]⟩
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)

variable [Facts]

def fn {F : FTy → Type} [FloatOps F] (main_arg0 : FVec F S32768x64 .f32) (main_arg1 : FVec F S4x1024x64 .f32) : IVec S4x1024x64 1 :=
  let main_v0 : FVec F S4x1024x64 .f32 := Host.absf main_arg1
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  main_v2
-- ==== Kernel.lean ====
abbrev S32768x64 : Shape := ⟨2, ![32768, 64]⟩
abbrev S4x1024x64 : Shape := ⟨3, ![4, 1024, 64]⟩
abbrev S4x64x1024 : Shape := ⟨3, ![4, 64, 1024]⟩
abbrev S32768x4 : Shape := ⟨2, ![32768, 4]⟩
abbrev S1x1 : Shape := ⟨2, ![1, 1]⟩
abbrev S_ : Shape := ⟨0, ![]⟩
abbrev S1024x64 : Shape := ⟨2, ![1024, 64]⟩
abbrev S1024x4 : Shape := ⟨2, ![1024, 4]⟩
abbrev S512x64 : Shape := ⟨2, ![512, 64]⟩
abbrev S512x1024 : Shape := ⟨2, ![512, 1024]⟩
abbrev S1x1024x64 : Shape := ⟨3, ![1, 1024, 64]⟩
abbrev S1024 : Shape := ⟨1, ![1024]⟩
abbrev S1x1024 : Shape := ⟨2, ![1, 1024]⟩
abbrev S512 : Shape := ⟨1, ![512]⟩
abbrev S512x1 : Shape := ⟨2, ![512, 1]⟩
abbrev S1x64x1024 : Shape := ⟨3, ![1, 64, 1024]⟩
abbrev S64x1024 : Shape := ⟨2, ![64, 1024]⟩
abbrev S1x512x64 : Shape := ⟨3, ![1, 512, 64]⟩
abbrev S1 : Shape := ⟨1, ![1]⟩
abbrev S1x1x1 : Shape := ⟨3, ![1, 1, 1]⟩

abbrev nBuf : Space → Nat
  | .hbm => 21
  | .vmem => 11
  | .smem => 0
  | _ => 0

abbrev bufTy : (tb : Table) → Fin (tcTables nBuf tb) → BufTy
  | .hbm, ⟨0, _⟩ => ⟨S32768x64, .f32⟩
  | .hbm, ⟨1, _⟩ => ⟨S4x1024x64, .f32⟩
  | .hbm, ⟨2, _⟩ => ⟨S4x1024x64, .bf16⟩
  | .hbm, ⟨3, _⟩ => ⟨S4x1024x64, .f32⟩
  | .hbm, ⟨4, _⟩ => ⟨S4x1024x64, .f32⟩
  | .hbm, ⟨5, _⟩ => ⟨S4x1024x64, .bf16⟩
  | .hbm, ⟨6, _⟩ => ⟨S4x1024x64, .f32⟩
  | .hbm, ⟨7, _⟩ => ⟨S4x1024x64, .f32⟩
  | .hbm, ⟨8, _⟩ => ⟨S4x1024x64, .bf16⟩
  | .hbm, ⟨9, _⟩ => ⟨S4x1024x64, .f32⟩
  | .hbm, ⟨10, _⟩ => ⟨S4x64x1024, .f32⟩
  | .hbm, ⟨11, _⟩ => ⟨S4x64x1024, .f32⟩
  | .hbm, ⟨12, _⟩ => ⟨S4x64x1024, .f32⟩
  | .hbm, ⟨13, _⟩ => ⟨S32768x64, .f32⟩
  | .hbm, ⟨14, _⟩ => ⟨S32768x4, .i32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S4x1024x64, .f32⟩
  | .local _ .vmem, ⟨3, _⟩ => ⟨S4x64x1024, .f32⟩
  | .local _ .vmem, ⟨4, _⟩ => ⟨S4x64x1024, .f32⟩
  | .local _ .vmem, ⟨5, _⟩ => ⟨S4x64x1024, .f32⟩
  | .local _ .vmem, ⟨6, _⟩ => ⟨S1024x64, .f32⟩
  | .local _ .vmem, ⟨7, _⟩ => ⟨S1024x64, .f32⟩
  | .local _ .vmem, ⟨8, _⟩ => ⟨S1024x4, .i32⟩
  | .local _ .vmem, ⟨9, _⟩ => ⟨S1024x4, .i32⟩
  | .local _ .vmem, ⟨10, _⟩ => ⟨S1x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_v0_0 : Ref sig .tc := ⟨.hbm, 13, rfl⟩
abbrev main_v0_2 : Ref sig .tc := ⟨.hbm, 14, rfl⟩
abbrev main_call0_v11_2 : Ref sig .tc := ⟨.hbm, 15, rfl⟩
abbrev main_call0_v12 : Ref sig .tc := ⟨.hbm, 16, rfl⟩
abbrev main_call0_cst : Ref sig .tc := ⟨.hbm, 17, rfl⟩
abbrev main_call0_v13 : Ref sig .tc := ⟨.hbm, 18, rfl⟩
abbrev main_call0_cst_0 : Ref sig .tc := ⟨.hbm, 19, rfl⟩
abbrev main_v0_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v405 : BitVec 1 := Scalar.cmpi .eq arg0 c0_i32
  let v406 : BitVec 32 := Scalar.extui v405
  let c0_i32_214 : BitVec 32 := 0#32
  let v407 : BitVec 1 := Scalar.cmpi .ne v406 c0_i32_214
  v407

def k0_cond2 (i : grid0.Coords) : BitVec 1 :=
  let arg0 : BitVec 32 := BitVec.ofNat 32 (i 0).val
  let c0_i32_215 : BitVec 32 := 0#32
  let v408 : BitVec 1 := Scalar.cmpi .ne arg0 c0_i32_215
  let v409 : BitVec 32 := Scalar.extui v408
  let c0_i32_216 : BitVec 32 := 0#32
  let v410 : BitVec 1 := Scalar.cmpi .ne v409 c0_i32_216
  v410

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x4 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32768x64 : Shape := ⟨2, ![32768, 64]⟩
abbrev S4x1024x64 : Shape := ⟨3, ![4, 1024, 64]⟩
abbrev S_ : Shape := ⟨0, ![]⟩
abbrev S1x1024x64 : Shape := ⟨3, ![1, 1024, 64]⟩
abbrev S1024x64 : Shape := ⟨2, ![1024, 64]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1 : Shape := ⟨1, ![1]⟩
abbrev S1x1 : Shape := ⟨2, ![1, 1]⟩
abbrev S4 : Shape := ⟨1, ![4]⟩
abbrev S32768x4 : Shape := ⟨2, ![32768, 4]⟩

abbrev nBuf : Space → Nat
  | .hbm => 282
  | .vmem => 0
  | .smem => 0
  | _ => 0

abbrev hbmTy0_0 (i : Nat) : BufTy := match i % 128 with
  | 0 => ⟨S32768x64, .f32⟩
  | 1 => ⟨S4x1024x64, .f32⟩
  | 2 => ⟨S_, .f32⟩
  | 3 => ⟨S32768x64, .f32⟩
  | 4 => ⟨S1x1024x64, .f32⟩
  | 5 => ⟨S1024x64, .f32⟩
  | 6 => ⟨S32768x64, .f32⟩
  | 7 => ⟨S_, .f32⟩
  | 8 => ⟨S32768, .f32⟩
  | 9 => ⟨S32768x1, .f32⟩
  | 10 => ⟨S1024x64, .f32⟩
  | 11 => ⟨S_, .f32⟩
  | 12 => ⟨S1024, .f32⟩
  | 13 => ⟨S1x1024, .f32⟩
  | 14 => ⟨S32768x1024, .f32⟩
  | 15 => ⟨S32768x1024, .f32⟩
  | 16 => ⟨S32768x1024, .f32⟩
  | 17 => ⟨S_, .f32⟩
  | 18 => ⟨S32768x64, .f32⟩
  | 19 => ⟨S32768x64, .f32⟩
  | 20 => ⟨S64x1024, .f32⟩
  | 21 => ⟨S32768x1024, .f32⟩
  | 22 => ⟨S32768x1024, .f32⟩
  | 23 => ⟨S32768x1024, .i32⟩
  | 24 => ⟨S_, .f32⟩
  | 25 => ⟨S_, .i32⟩
  | 26 => ⟨S32768, .f32⟩
  | 27 => ⟨S32768, .i32⟩
  | 28 => ⟨S_, .i32⟩
  | 29 => ⟨S32768, .i32⟩
  | 30 => ⟨S32768, .i1⟩
  | 31 => ⟨S_, .i32⟩
  | 32 => ⟨S32768, .i32⟩
  | 33 => ⟨S32768, .i32⟩
  | 34 => ⟨S32768, .i32⟩
  | 35 => ⟨S32768x1, .i32⟩
  | 36 => ⟨S1, .i32⟩
  | 37 => ⟨S_, .i32⟩
  | 38 => ⟨S32768x1, .i32⟩
  | 39 => ⟨S32768x1, .i1⟩
  | 40 => ⟨S1x1, .i32⟩
  | 41 => ⟨S32768x1, .i32⟩
  | 42 => ⟨S32768x1, .i1⟩
  | 43 => ⟨S32768x1, .i1⟩
  | 44 => ⟨S_, .i1⟩
  | 45 => ⟨S32768, .i1⟩
  | 46 => ⟨S32768x64, .f32⟩
  | 47 => ⟨S32768x64, .i1⟩
  | 48 => ⟨S_, .f32⟩
  | 49 => ⟨S32768x64, .f32⟩
  | 50 => ⟨S32768x64, .f32⟩
  | 51 => ⟨S32768x64, .f32⟩
  | 52 => ⟨S32768x64, .f32⟩
  | 53 => ⟨S_, .f32⟩
  | 54 => ⟨S_, .f32⟩
  | 55 => ⟨S_, .f32⟩
  | 56 => ⟨S_, .f32⟩
  | 57 => ⟨S32768x64, .f32⟩
  | 58 => ⟨S32768x64, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S32768x64, .f32⟩
  | 67 => ⟨S32768x64, .f32⟩
  | 68 => ⟨S32768x64, .f32⟩
  | 69 => ⟨S32768x64, .f32⟩
  | 70 => ⟨S1x1024x64, .f32⟩
  | 71 => ⟨S1024x64, .f32⟩
  | 72 => ⟨S32768x64, .f32⟩
  | 73 => ⟨S_, .f32⟩
  | 74 => ⟨S32768, .f32⟩
  | 75 => ⟨S32768x1, .f32⟩
  | 76 => ⟨S1024x64, .f32⟩
  | 77 => ⟨S_, .f32⟩
  | 78 => ⟨S1024, .f32⟩
  | 79 => ⟨S1x1024, .f32⟩
  | 80 => ⟨S32768x1024, .f32⟩
  | 81 => ⟨S32768x1024, .f32⟩
  | 82 => ⟨S32768x1024, .f32⟩
  | 83 => ⟨S_, .f32⟩
  | 84 => ⟨S32768x64, .f32⟩
  | 85 => ⟨S32768x64, .f32⟩
  | 86 => ⟨S64x1024, .f32⟩
  | 87 => ⟨S32768x1024, .f32⟩
  | 88 => ⟨S32768x1024, .f32⟩
  | 89 => ⟨S32768x1024, .i32⟩
  | 90 => ⟨S_, .f32⟩
  | 91 => ⟨S_, .i32⟩
  | 92 => ⟨S32768, .f32⟩
  | 93 => ⟨S32768, .i32⟩
  | 94 => ⟨S_, .i32⟩
  | 95 => ⟨S32768, .i32⟩
  | 96 => ⟨S32768, .i1⟩
  | 97 => ⟨S_, .i32⟩
  | 98 => ⟨S32768, .i32⟩
  | 99 => ⟨S32768, .i32⟩
  | 100 => ⟨S32768, .i32⟩
  | 101 => ⟨S32768x1, .i32⟩
  | 102 => ⟨S1, .i32⟩
  | 103 => ⟨S_, .i32⟩
  | 104 => ⟨S32768x1, .i32⟩
  | 105 => ⟨S32768x1, .i1⟩
  | 106 => ⟨S1x1, .i32⟩
  | 107 => ⟨S32768x1, .i32⟩
  | 108 => ⟨S32768x1, .i1⟩
  | 109 => ⟨S32768x1, .i1⟩
  | 110 => ⟨S_, .i1⟩
  | 111 => ⟨S32768, .i1⟩
  | 112 => ⟨S32768x64, .f32⟩
  | 113 => ⟨S32768x64, .i1⟩
  | 114 => ⟨S_, .f32⟩
  | 115 => ⟨S32768x64, .f32⟩
  | 116 => ⟨S32768x64, .f32⟩
  | 117 => ⟨S32768x64, .f32⟩
  | 118 => ⟨S32768x64, .f32⟩
  | 119 => ⟨S_, .f32⟩
  | 120 => ⟨S_, .f32⟩
  | 121 => ⟨S_, .f32⟩
  | 122 => ⟨S_, .f32⟩
  | 123 => ⟨S32768x64, .f32⟩
  | 124 => ⟨S32768x64, .f32⟩
  | 125 => ⟨S_, .f32⟩
  | 126 => ⟨S_, .f32⟩
  | 127 => ⟨S_, .f32⟩
  | _ => ⟨S32768x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S32768x64, .f32⟩
  | 5 => ⟨S32768x64, .f32⟩
  | 6 => ⟨S32768x64, .f32⟩
  | 7 => ⟨S32768x64, .f32⟩
  | 8 => ⟨S1x1024x64, .f32⟩
  | 9 => ⟨S1024x64, .f32⟩
  | 10 => ⟨S32768x64, .f32⟩
  | 11 => ⟨S_, .f32⟩
  | 12 => ⟨S32768, .f32⟩
  | 13 => ⟨S32768x1, .f32⟩
  | 14 => ⟨S1024x64, .f32⟩
  | 15 => ⟨S_, .f32⟩
  | 16 => ⟨S1024, .f32⟩
  | 17 => ⟨S1x1024, .f32⟩
  | 18 => ⟨S32768x1024, .f32⟩
  | 19 => ⟨S32768x1024, .f32⟩
  | 20 => ⟨S32768x1024, .f32⟩
  | 21 => ⟨S_, .f32⟩
  | 22 => ⟨S32768x64, .f32⟩
  | 23 => ⟨S32768x64, .f32⟩
  | 24 => ⟨S64x1024, .f32⟩
  | 25 => ⟨S32768x1024, .f32⟩
  | 26 => ⟨S32768x1024, .f32⟩
  | 27 => ⟨S32768x1024, .i32⟩
  | 28 => ⟨S_, .f32⟩
  | 29 => ⟨S_, .i32⟩
  | 30 => ⟨S32768, .f32⟩
  | 31 => ⟨S32768, .i32⟩
  | 32 => ⟨S_, .i32⟩
  | 33 => ⟨S32768, .i32⟩
  | 34 => ⟨S32768, .i1⟩
  | 35 => ⟨S_, .i32⟩
  | 36 => ⟨S32768, .i32⟩
  | 37 => ⟨S32768, .i32⟩
  | 38 => ⟨S32768, .i32⟩
  | 39 => ⟨S32768x1, .i32⟩
  | 40 => ⟨S1, .i32⟩
  | 41 => ⟨S_, .i32⟩
  | 42 => ⟨S32768x1, .i32⟩
  | 43 => ⟨S32768x1, .i1⟩
  | 44 => ⟨S1x1, .i32⟩
  | 45 => ⟨S32768x1, .i32⟩
  | 46 => ⟨S32768x1, .i1⟩
  | 47 => ⟨S32768x1, .i1⟩
  | 48 => ⟨S_, .i1⟩
  | 49 => ⟨S32768, .i1⟩
  | 50 => ⟨S32768x64, .f32⟩
  | 51 => ⟨S32768x64, .i1⟩
  | 52 => ⟨S_, .f32⟩
  | 53 => ⟨S32768x64, .f32⟩
  | 54 => ⟨S32768x64, .f32⟩
  | 55 => ⟨S32768x64, .f32⟩
  | 56 => ⟨S32768x64, .f32⟩
  | 57 => ⟨S_, .f32⟩
  | 58 => ⟨S_, .f32⟩
  | 59 => ⟨S_, .f32⟩
  | 60 => ⟨S_, .f32⟩
  | 61 => ⟨S32768x64, .f32⟩
  | 62 => ⟨S32768x64, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S32768x64, .f32⟩
  | 71 => ⟨S32768x64, .f32⟩
  | 72 => ⟨S32768x64, .f32⟩
  | 73 => ⟨S32768x64, .f32⟩
  | 74 => ⟨S1x1024x64, .f32⟩
  | 75 => ⟨S1024x64, .f32⟩
  | 76 => ⟨S32768x64, .f32⟩
  | 77 => ⟨S_, .f32⟩
  | 78 => ⟨S32768, .f32⟩
  | 79 => ⟨S32768x1, .f32⟩
  | 80 => ⟨S1024x64, .f32⟩
  | 81 => ⟨S_, .f32⟩
  | 82 => ⟨S1024, .f32⟩
  | 83 => ⟨S1x1024, .f32⟩
  | 84 => ⟨S32768x1024, .f32⟩
  | 85 => ⟨S32768x1024, .f32⟩
  | 86 => ⟨S32768x1024, .f32⟩
  | 87 => ⟨S_, .f32⟩
  | 88 => ⟨S32768x64, .f32⟩
  | 89 => ⟨S32768x64, .f32⟩
  | 90 => ⟨S64x1024, .f32⟩
  | 91 => ⟨S32768x1024, .f32⟩
  | 92 => ⟨S32768x1024, .f32⟩
  | 93 => ⟨S32768x1024, .i32⟩
  | 94 => ⟨S_, .f32⟩
  | 95 => ⟨S_, .i32⟩
  | 96 => ⟨S32768, .f32⟩
  | 97 => ⟨S32768, .i32⟩
  | 98 => ⟨S_, .i32⟩
  | 99 => ⟨S32768, .i32⟩
  | 100 => ⟨S32768, .i1⟩
  | 101 => ⟨S_, .i32⟩
  | 102 => ⟨S32768, .i32⟩
  | 103 => ⟨S32768, .i32⟩
  | 104 => ⟨S32768, .i32⟩
  | 105 => ⟨S32768x1, .i32⟩
  | 106 => ⟨S1, .i32⟩
  | 107 => ⟨S_, .i32⟩
  | 108 => ⟨S32768x1, .i32⟩
  | 109 => ⟨S32768x1, .i1⟩
  | 110 => ⟨S1x1, .i32⟩
  | 111 => ⟨S32768x1, .i32⟩
  | 112 => ⟨S32768x1, .i1⟩
  | 113 => ⟨S32768x1, .i1⟩
  | 114 => ⟨S_, .i1⟩
  | 115 => ⟨S32768, .i1⟩
  | 116 => ⟨S32768x64, .f32⟩
  | 117 => ⟨S32768x64, .i1⟩
  | 118 => ⟨S_, .f32⟩
  | 119 => ⟨S32768x64, .f32⟩
  | 120 => ⟨S32768x64, .f32⟩
  | 121 => ⟨S32768x64, .f32⟩
  | 122 => ⟨S32768x64, .f32⟩
  | 123 => ⟨S_, .f32⟩
  | 124 => ⟨S_, .f32⟩
  | 125 => ⟨S_, .f32⟩
  | 126 => ⟨S_, .f32⟩
  | 127 => ⟨S32768x64, .f32⟩
  | _ => ⟨S32768x64, .f32⟩

abbrev hbmTy0_2 (i : Nat) : BufTy := match i % 128 with
  | 0 => ⟨S32768x64, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S32768x64, .f32⟩
  | 9 => ⟨S32768x64, .f32⟩
  | 10 => ⟨S32768x64, .f32⟩
  | 11 => ⟨S32768x64, .f32⟩
  | 12 => ⟨S1, .f32⟩
  | 13 => ⟨S1, .f32⟩
  | 14 => ⟨S1, .f32⟩
  | 15 => ⟨S1, .f32⟩
  | 16 => ⟨S4, .f32⟩
  | 17 => ⟨S_, .f32⟩
  | 18 => ⟨S_, .f32⟩
  | 19 => ⟨S_, .f32⟩
  | 20 => ⟨S_, .f32⟩
  | 21 => ⟨S32768x1, .i32⟩
  | 22 => ⟨S32768x1, .i32⟩
  | 23 => ⟨S32768x1, .i32⟩
  | 24 => ⟨S32768x1, .i32⟩
  | 25 => ⟨S32768x4, .i32⟩
  | _ => ⟨S32768x64, .f32⟩

abbrev hbmTy (i : Nat) : BufTy := match i / 128 with
  | 0 => hbmTy0_0 i
  | 1 => hbmTy0_1 i
  | 2 => hbmTy0_2 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_cst_1 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_call0_v0 : Ref sig .tc := ⟨.hbm, 23, rfl⟩
abbrev main_call0_call0_cst : Ref sig .tc := ⟨.hbm, 24, rfl⟩
abbrev main_call0_call0_c : Ref sig .tc := ⟨.hbm, 25, rfl⟩
abbrev main_call0_call0_v1_0 : Ref sig .tc := ⟨.hbm, 26, rfl⟩
abbrev main_v3_2 : Ref sig .tc := ⟨.hbm, 27, rfl⟩
abbrev main_call0_call1_c : Ref sig .tc := ⟨.hbm, 28, rfl⟩
abbrev main_call0_call1_v0 : Ref sig .tc := ⟨.hbm, 29, rfl⟩
abbrev main_call0_call1_v1 : Ref sig .tc := ⟨.hbm, 30, rfl⟩
abbrev main_call0_call1_c_0 : Ref sig .tc := ⟨.hbm, 31, rfl⟩
abbrev main_call0_call1_v2 : Ref sig .tc := ⟨.hbm, 32, rfl⟩
abbrev main_call0_call1_v3 : Ref sig .tc := ⟨.hbm, 33, rfl⟩
abbrev main_call0_call1_v4 : Ref sig .tc := ⟨.hbm, 34, rfl⟩
abbrev main_call0_call1_v5 : Ref sig .tc := ⟨.hbm, 35, rfl⟩
abbrev main_call0_call1_c_1 : Ref sig .tc := ⟨.hbm, 36, rfl⟩
abbrev main_call0_call1_c_2 : Ref sig .tc := ⟨.hbm, 37, rfl⟩
abbrev main_call0_call1_v6 : Ref sig .tc := ⟨.hbm, 38, rfl⟩
abbrev main_call0_call1_v7 : Ref sig .tc := ⟨.hbm, 39, rfl⟩
abbrev main_call0_call1_v8 : Ref sig .tc := ⟨.hbm, 40, rfl⟩
abbrev main_call0_call1_v9 : Ref sig .tc := ⟨.hbm, 41, rfl⟩
abbrev main_call0_call1_v10 : Ref sig .tc := ⟨.hbm, 42, rfl⟩
abbrev main_call0_call1_v11 : Ref sig .tc := ⟨.hbm, 43, rfl⟩
abbrev main_call0_call1_c_3 : Ref sig .tc := ⟨.hbm, 44, rfl⟩
abbrev main_call0_call1_v12 : Ref sig .tc := ⟨.hbm, 45, rfl⟩
abbrev main_call0_call1_v13 : Ref sig .tc := ⟨.hbm, 46, rfl⟩
abbrev main_call0_call1_v14 : Ref sig .tc := ⟨.hbm, 47, rfl⟩
abbrev main_call0_call1_cst : Ref sig .tc := ⟨.hbm, 48, rfl⟩
abbrev main_call0_call1_v15 : Ref sig .tc := ⟨.hbm, 49, rfl⟩
abbrev main_call0_v15 : Ref sig .tc := ⟨.hbm, 50, rfl⟩
abbrev main_call0_v16 : Ref sig .tc := ⟨.hbm, 51, rfl⟩
abbrev main_call0_v17 : Ref sig .tc := ⟨.hbm, 52, rfl⟩
abbrev main_call0_cst_2 : Ref sig .tc := ⟨.hbm, 53, rfl⟩
abbrev main_call0_v18 : Ref sig .tc := ⟨.hbm, 54, rfl⟩
abbrev main_call0_cst_3 : Ref sig .tc := ⟨.hbm, 55, rfl⟩
abbrev main_call0_v19 : Ref sig .tc := ⟨.hbm, 56, rfl⟩
abbrev main_call0_v20 : Ref sig .tc := ⟨.hbm, 57, rfl⟩
abbrev main_call0_v21 : Ref sig .tc := ⟨.hbm, 58, rfl⟩
abbrev main_call0_cst_4 : Ref sig .tc := ⟨.hbm, 59, rfl⟩
abbrev main_call0_v22 : Ref sig .tc := ⟨.hbm, 60, rfl⟩
abbrev main_call0_cst_5 : Ref sig .tc := ⟨.hbm, 61, rfl⟩
abbrev main_call0_v23 : Ref sig .tc := ⟨.hbm, 62, rfl⟩
abbrev main_call0_cst_6 : Ref sig .tc := ⟨.hbm, 63, rfl⟩
abbrev main_call0_v24 : Ref sig .tc := ⟨.hbm, 64, rfl⟩
abbrev main_v3_1 : Ref sig .tc := ⟨.hbm, 65, rfl⟩
abbrev main_call0_v26 : Ref sig .tc := ⟨.hbm, 66, rfl⟩
abbrev main_v3_0 : Ref sig .tc := ⟨.hbm, 67, rfl⟩
abbrev main_v4 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_cst_1 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_v13 : Ref sig .tc := ⟨.hbm, 88, rfl⟩
abbrev main_call1_call0_v0 : Ref sig .tc := ⟨.hbm, 89, rfl⟩
abbrev main_call1_call0_cst : Ref sig .tc := ⟨.hbm, 90, rfl⟩
abbrev main_call1_call0_c : Ref sig .tc := ⟨.hbm, 91, rfl⟩
abbrev main_call1_call0_v1_0 : Ref sig .tc := ⟨.hbm, 92, rfl⟩
abbrev main_v8_2 : Ref sig .tc := ⟨.hbm, 93, rfl⟩
abbrev main_call1_call1_c : Ref sig .tc := ⟨.hbm, 94, rfl⟩
abbrev main_call1_call1_v0 : Ref sig .tc := ⟨.hbm, 95, rfl⟩
abbrev main_call1_call1_v1 : Ref sig .tc := ⟨.hbm, 96, rfl⟩
abbrev main_call1_call1_c_0 : Ref sig .tc := ⟨.hbm, 97, rfl⟩
abbrev main_call1_call1_v2 : Ref sig .tc := ⟨.hbm, 98, rfl⟩
abbrev main_call1_call1_v3 : Ref sig .tc := ⟨.hbm, 99, rfl⟩
abbrev main_call1_call1_v4 : Ref sig .tc := ⟨.hbm, 100, rfl⟩
abbrev main_call1_call1_v5 : Ref sig .tc := ⟨.hbm, 101, rfl⟩
abbrev main_call1_call1_c_1 : Ref sig .tc := ⟨.hbm, 102, rfl⟩
abbrev main_call1_call1_c_2 : Ref sig .tc := ⟨.hbm, 103, rfl⟩
abbrev main_call1_call1_v6 : Ref sig .tc := ⟨.hbm, 104, rfl⟩
abbrev main_call1_call1_v7 : Ref sig .tc := ⟨.hbm, 105, rfl⟩
abbrev main_call1_call1_v8 : Ref sig .tc := ⟨.hbm, 106, rfl⟩
abbrev main_call1_call1_v9 : Ref sig .tc := ⟨.hbm, 107, rfl⟩
abbrev main_call1_call1_v10 : Ref sig .tc := ⟨.hbm, 108, rfl⟩
abbrev main_call1_call1_v11 : Ref sig .tc := ⟨.hbm, 109, rfl⟩
abbrev main_call1_call1_c_3 : Ref sig .tc := ⟨.hbm, 110, rfl⟩
abbrev main_call1_call1_v12 : Ref sig .tc := ⟨.hbm, 111, rfl⟩
abbrev main_call1_call1_v13 : Ref sig .tc := ⟨.hbm, 112, rfl⟩
abbrev main_call1_call1_v14 : Ref sig .tc := ⟨.hbm, 113, rfl⟩
abbrev main_call1_call1_cst : Ref sig .tc := ⟨.hbm, 114, rfl⟩
abbrev main_call1_call1_v15 : Ref sig .tc := ⟨.hbm, 115, rfl⟩
abbrev main_call1_v15 : Ref sig .tc := ⟨.hbm, 116, rfl⟩
abbrev main_call1_v16 : Ref sig .tc := ⟨.hbm, 117, rfl⟩
abbrev main_call1_v17 : Ref sig .tc := ⟨.hbm, 118, rfl⟩
abbrev main_call1_cst_2 : Ref sig .tc := ⟨.hbm, 119, rfl⟩
abbrev main_call1_v18 : Ref sig .tc := ⟨.hbm, 120, rfl⟩
abbrev main_call1_cst_3 : Ref sig .tc := ⟨.hbm, 121, rfl⟩
abbrev main_call1_v19 : Ref sig .tc := ⟨.hbm, 122, rfl⟩
abbrev main_call1_v20 : Ref sig .tc := ⟨.hbm, 123, rfl⟩
abbrev main_call1_v21 : Ref sig .tc := ⟨.hbm, 124, rfl⟩
abbrev main_call1_cst_4 : Ref sig .tc := ⟨.hbm, 125, rfl⟩
abbrev main_call1_v22 : Ref sig .tc := ⟨.hbm, 126, rfl⟩
abbrev main_call1_cst_5 : Ref sig .tc := ⟨.hbm, 127, rfl⟩
abbrev main_call1_v23 : Ref sig .tc := ⟨.hbm, 128, rfl⟩
abbrev main_call1_cst_6 : Ref sig .tc := ⟨.hbm, 129, rfl⟩
abbrev main_call1_v24 : Ref sig .tc := ⟨.hbm, 130, rfl⟩
abbrev main_v8_1 : Ref sig .tc := ⟨.hbm, 131, rfl⟩
abbrev main_call1_v26 : Ref sig .tc := ⟨.hbm, 132, rfl⟩
abbrev main_v8_0 : Ref sig .tc := ⟨.hbm, 133, rfl⟩
abbrev main_v9 : Ref sig .tc := ⟨.hbm, 134, rfl⟩
abbrev main_v10 : Ref sig .tc := ⟨.hbm, 135, rfl⟩
abbrev main_v11 : Ref sig .tc := ⟨.hbm, 136, rfl⟩
abbrev main_v12 : Ref sig .tc := ⟨.hbm, 137, rfl⟩
abbrev main_call2_v0 : Ref sig .tc := ⟨.hbm, 138, rfl⟩
abbrev main_call2_cst : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_cst_0 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_cst_1 : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_v12 : Ref sig .tc := ⟨.hbm, 153, rfl⟩
abbrev main_call2_v13 : Ref sig .tc := ⟨.hbm, 154, rfl⟩
abbrev main_call2_call0_v0 : Ref sig .tc := ⟨.hbm, 155, rfl⟩
abbrev main_call2_call0_cst : Ref sig .tc := ⟨.hbm, 156, rfl⟩
abbrev main_call2_call0_c : Ref sig .tc := ⟨.hbm, 157, rfl⟩
abbrev main_call2_call0_v1_0 : Ref sig .tc := ⟨.hbm, 158, rfl⟩
abbrev main_v13_2 : Ref sig .tc := ⟨.hbm, 159, rfl⟩
abbrev main_call2_call1_c : Ref sig .tc := ⟨.hbm, 160, rfl⟩
abbrev main_call2_call1_v0 : Ref sig .tc := ⟨.hbm, 161, rfl⟩
abbrev main_call2_call1_v1 : Ref sig .tc := ⟨.hbm, 162, rfl⟩
abbrev main_call2_call1_c_0 : Ref sig .tc := ⟨.hbm, 163, rfl⟩
abbrev main_call2_call1_v2 : Ref sig .tc := ⟨.hbm, 164, rfl⟩
abbrev main_call2_call1_v3 : Ref sig .tc := ⟨.hbm, 165, rfl⟩
abbrev main_call2_call1_v4 : Ref sig .tc := ⟨.hbm, 166, rfl⟩
abbrev main_call2_call1_v5 : Ref sig .tc := ⟨.hbm, 167, rfl⟩
abbrev main_call2_call1_c_1 : Ref sig .tc := ⟨.hbm, 168, rfl⟩
abbrev main_call2_call1_c_2 : Ref sig .tc := ⟨.hbm, 169, rfl⟩
abbrev main_call2_call1_v6 : Ref sig .tc := ⟨.hbm, 170, rfl⟩
abbrev main_call2_call1_v7 : Ref sig .tc := ⟨.hbm, 171, rfl⟩
abbrev main_call2_call1_v8 : Ref sig .tc := ⟨.hbm, 172, rfl⟩
abbrev main_call2_call1_v9 : Ref sig .tc := ⟨.hbm, 173, rfl⟩
abbrev main_call2_call1_v10 : Ref sig .tc := ⟨.hbm, 174, rfl⟩
abbrev main_call2_call1_v11 : Ref sig .tc := ⟨.hbm, 175, rfl⟩
abbrev main_call2_call1_c_3 : Ref sig .tc := ⟨.hbm, 176, rfl⟩
abbrev main_call2_call1_v12 : Ref sig .tc := ⟨.hbm, 177, rfl⟩
abbrev main_call2_call1_v13 : Ref sig .tc := ⟨.hbm, 178, rfl⟩
abbrev main_call2_call1_v14 : Ref sig .tc := ⟨.hbm, 179, rfl⟩
abbrev main_call2_call1_cst : Ref sig .tc := ⟨.hbm, 180, rfl⟩
abbrev main_call2_call1_v15 : Ref sig .tc := ⟨.hbm, 181, rfl⟩
abbrev main_call2_v15 : Ref sig .tc := ⟨.hbm, 182, rfl⟩
abbrev main_call2_v16 : Ref sig .tc := ⟨.hbm, 183, rfl⟩
abbrev main_call2_v17 : Ref sig .tc := ⟨.hbm, 184, rfl⟩
abbrev main_call2_cst_2 : Ref sig .tc := ⟨.hbm, 185, rfl⟩
abbrev main_call2_v18 : Ref sig .tc := ⟨.hbm, 186, rfl⟩
abbrev main_call2_cst_3 : Ref sig .tc := ⟨.hbm, 187, rfl⟩
abbrev main_call2_v19 : Ref sig .tc := ⟨.hbm, 188, rfl⟩
abbrev main_call2_v20 : Ref sig .tc := ⟨.hbm, 189, rfl⟩
abbrev main_call2_v21 : Ref sig .tc := ⟨.hbm, 190, rfl⟩
abbrev main_call2_cst_4 : Ref sig .tc := ⟨.hbm, 191, rfl⟩
abbrev main_call2_v22 : Ref sig .tc := ⟨.hbm, 192, rfl⟩
abbrev main_call2_cst_5 : Ref sig .tc := ⟨.hbm, 193, rfl⟩
abbrev main_call2_v23 : Ref sig .tc := ⟨.hbm, 194, rfl⟩
abbrev main_call2_cst_6 : Ref sig .tc := ⟨.hbm, 195, rfl⟩
abbrev main_call2_v24 : Ref sig .tc := ⟨.hbm, 196, rfl⟩
abbrev main_v13_1 : Ref sig .tc := ⟨.hbm, 197, rfl⟩
abbrev main_call2_v26 : Ref sig .tc := ⟨.hbm, 198, rfl⟩
abbrev main_v13_0 : Ref sig .tc := ⟨.hbm, 199, rfl⟩
abbrev main_v14 : Ref sig .tc := ⟨.hbm, 200, rfl⟩
abbrev main_v15 : Ref sig .tc := ⟨.hbm, 201, rfl⟩
abbrev main_v16 : Ref sig .tc := ⟨.hbm, 202, rfl⟩
abbrev main_v17 : Ref sig .tc := ⟨.hbm, 203, rfl⟩
abbrev main_call3_v0 : Ref sig .tc := ⟨.hbm, 204, rfl⟩
abbrev main_call3_cst : Ref sig .tc := ⟨.hbm, 205, rfl⟩
abbrev main_call3_v1 : Ref sig .tc := ⟨.hbm, 206, rfl⟩
abbrev main_call3_v2 : Ref sig .tc := ⟨.hbm, 207, rfl⟩
abbrev main_call3_v3 : Ref sig .tc := ⟨.hbm, 208, rfl⟩
abbrev main_call3_cst_0 : Ref sig .tc := ⟨.hbm, 209, rfl⟩
abbrev main_call3_v4 : Ref sig .tc := ⟨.hbm, 210, rfl⟩
abbrev main_call3_v5 : Ref sig .tc := ⟨.hbm, 211, rfl⟩
abbrev main_call3_v6 : Ref sig .tc := ⟨.hbm, 212, rfl⟩
abbrev main_call3_v7 : Ref sig .tc := ⟨.hbm, 213, rfl⟩
abbrev main_call3_v8 : Ref sig .tc := ⟨.hbm, 214, rfl⟩
abbrev main_call3_cst_1 : Ref sig .tc := ⟨.hbm, 215, rfl⟩
abbrev main_call3_v9 : Ref sig .tc := ⟨.hbm, 216, rfl⟩
abbrev main_call3_v10 : Ref sig .tc := ⟨.hbm, 217, rfl⟩
abbrev main_call3_v11 : Ref sig .tc := ⟨.hbm, 218, rfl⟩
abbrev main_call3_v12 : Ref sig .tc := ⟨.hbm, 219, rfl⟩
abbrev main_call3_v13 : Ref sig .tc := ⟨.hbm, 220, rfl⟩
abbrev main_call3_call0_v0 : Ref sig .tc := ⟨.hbm, 221, rfl⟩
abbrev main_call3_call0_cst : Ref sig .tc := ⟨.hbm, 222, rfl⟩
abbrev main_call3_call0_c : Ref sig .tc := ⟨.hbm, 223, rfl⟩
abbrev main_call3_call0_v1_0 : Ref sig .tc := ⟨.hbm, 224, rfl⟩
abbrev main_v18_2 : Ref sig .tc := ⟨.hbm, 225, rfl⟩
abbrev main_call3_call1_c : Ref sig .tc := ⟨.hbm, 226, rfl⟩
abbrev main_call3_call1_v0 : Ref sig .tc := ⟨.hbm, 227, rfl⟩
abbrev main_call3_call1_v1 : Ref sig .tc := ⟨.hbm, 228, rfl⟩
abbrev main_call3_call1_c_0 : Ref sig .tc := ⟨.hbm, 229, rfl⟩
abbrev main_call3_call1_v2 : Ref sig .tc := ⟨.hbm, 230, rfl⟩
abbrev main_call3_call1_v3 : Ref sig .tc := ⟨.hbm, 231, rfl⟩
abbrev main_call3_call1_v4 : Ref sig .tc := ⟨.hbm, 232, rfl⟩
abbrev main_call3_call1_v5 : Ref sig .tc := ⟨.hbm, 233, rfl⟩
abbrev main_call3_call1_c_1 : Ref sig .tc := ⟨.hbm, 234, rfl⟩
abbrev main_call3_call1_c_2 : Ref sig .tc := ⟨.hbm, 235, rfl⟩
abbrev main_call3_call1_v6 : Ref sig .tc := ⟨.hbm, 236, rfl⟩
abbrev main_call3_call1_v7 : Ref sig .tc := ⟨.hbm, 237, rfl⟩
abbrev main_call3_call1_v8 : Ref sig .tc := ⟨.hbm, 238, rfl⟩
abbrev main_call3_call1_v9 : Ref sig .tc := ⟨.hbm, 239, rfl⟩
abbrev main_call3_call1_v10 : Ref sig .tc := ⟨.hbm, 240, rfl⟩
abbrev main_call3_call1_v11 : Ref sig .tc := ⟨.hbm, 241, rfl⟩
abbrev main_call3_call1_c_3 : Ref sig .tc := ⟨.hbm, 242, rfl⟩
abbrev main_call3_call1_v12 : Ref sig .tc := ⟨.hbm, 243, rfl⟩
abbrev main_call3_call1_v13 : Ref sig .tc := ⟨.hbm, 244, rfl⟩
abbrev main_call3_call1_v14 : Ref sig .tc := ⟨.hbm, 245, rfl⟩
abbrev main_call3_call1_cst : Ref sig .tc := ⟨.hbm, 246, rfl⟩
abbrev main_call3_call1_v15 : Ref sig .tc := ⟨.hbm, 247, rfl⟩
abbrev main_call3_v15 : Ref sig .tc := ⟨.hbm, 248, rfl⟩
abbrev main_call3_v16 : Ref sig .tc := ⟨.hbm, 249, rfl⟩
abbrev main_call3_v17 : Ref sig .tc := ⟨.hbm, 250, rfl⟩
abbrev main_call3_cst_2 : Ref sig .tc := ⟨.hbm, 251, rfl⟩
abbrev main_call3_v18 : Ref sig .tc := ⟨.hbm, 252, rfl⟩
abbrev main_call3_cst_3 : Ref sig .tc := ⟨.hbm, 253, rfl⟩
abbrev main_call3_v19 : Ref sig .tc := ⟨.hbm, 254, rfl⟩
abbrev main_call3_v20 : Ref sig .tc := ⟨.hbm, 255, rfl⟩
abbrev main_call3_v21 : Ref sig .tc := ⟨.hbm, 256, rfl⟩
abbrev main_call3_cst_4 : Ref sig .tc := ⟨.hbm, 257, rfl⟩
abbrev main_call3_v22 : Ref sig .tc := ⟨.hbm, 258, rfl⟩
abbrev main_call3_cst_5 : Ref sig .tc := ⟨.hbm, 259, rfl⟩
abbrev main_call3_v23 : Ref sig .tc := ⟨.hbm, 260, rfl⟩
abbrev main_call3_cst_6 : Ref sig .tc := ⟨.hbm, 261, rfl⟩
abbrev main_call3_v24 : Ref sig .tc := ⟨.hbm, 262, rfl⟩
abbrev main_v18_1 : Ref sig .tc := ⟨.hbm, 263, rfl⟩
abbrev main_call3_v26 : Ref sig .tc := ⟨.hbm, 264, rfl⟩
abbrev main_v18_0 : Ref sig .tc := ⟨.hbm, 265, rfl⟩
abbrev main_v19 : Ref sig .tc := ⟨.hbm, 266, rfl⟩
abbrev main_v20 : Ref sig .tc := ⟨.hbm, 267, rfl⟩
abbrev main_v21 : Ref sig .tc := ⟨.hbm, 268, rfl⟩
abbrev main_v22 : Ref sig .tc := ⟨.hbm, 269, rfl⟩
abbrev main_v23 : Ref sig .tc := ⟨.hbm, 270, rfl⟩
abbrev main_v24 : Ref sig .tc := ⟨.hbm, 271, rfl⟩
abbrev main_v25 : Ref sig .tc := ⟨.hbm, 272, rfl⟩
abbrev main_cst_0 : Ref sig .tc := ⟨.hbm, 273, rfl⟩
abbrev main_v26 : Ref sig .tc := ⟨.hbm, 274, rfl⟩
abbrev main_cst_1 : Ref sig .tc := ⟨.hbm, 275, rfl⟩
abbrev main_v27 : Ref sig .tc := ⟨.hbm, 276, rfl⟩
abbrev main_v28 : Ref sig .tc := ⟨.hbm, 277, rfl⟩
abbrev main_v29 : Ref sig .tc := ⟨.hbm, 278, rfl⟩
abbrev main_v30 : Ref sig .tc := ⟨.hbm, 279, rfl⟩
abbrev main_v31 : Ref sig .tc := ⟨.hbm, 280, rfl⟩
abbrev main_v32 : Ref sig .tc := ⟨.hbm, 281, rfl⟩

abbrev nD : Nat := 1
abbrev τ : Topo := Topo.v7x

variable {F : FTy → Type} [FloatOps F]
-- ==== Proof.KerStages.lean ====
/-
  What one level of the kernel's body computes, as five functions of a half tile and of one codebook's blocks, and the
  body's printed intermediate values as those functions.

  The body handles two halves and four levels, eight times the same work, and the printed program cuts it into parts
  at places that fall anywhere within a level. Each lemma here names one printed value by the five functions; they
  hold by unfolding.
-/
module

public import proofs.«01_k».proof.Proof.Gen.KernelIdeal.Frame
public import Idealize.ShloMosaic.Lib.Pipeline.Value

@[expose] public section

set_option maxRecDepth 16384

noncomputable section

open Idealize.ShloMosaic Idealize.ShloMosaic.TcCoe

namespace Cert.KernelIdeal.Value

open Cert.KernelIdeal Cert.KernelIdeal.Gen

variable {F : FTy → Type} [FloatOps F]

/-- The code numbers 0 … 1023, along each row. -/
def lane : IVec S512x1024 32 := iota Kind.tc S512x1024 32 [1] iota_S512x1024_d1_w32

theorem lane_eq (ds : List (Fin S512x1024.rank)) (h) (hd : ds = [1]) : iota Kind.tc S512x1024 32 ds h = lane := by
  subst hd; rfl

/-- The squared norms of one codebook's codes. -/
def norms (cb : Vec F S1x1024x64 .f32) : FVec F S1x1024 .f32 := k0_pay8 cb

/-- The distances of the rows `r` to the codes, from the codes' squared norms and the three parts of the codebook. -/
def dist (r : FVec F S512x64 .f32) (c2 : FVec F S1x1024 .f32) (h m l : Vec F S1x64x1024 .f32) : FVec F S512x1024 .f32 :=
  subf
    (addf
      (broadcastTo S512x1024 (shapeCast S512x1 (multiReduction .add [1] S512 (mulf r r) 0x00000000#32 reduces_S512x64_S512 (.inl rfl) rfl)
        shapeCasts_S512_S512x1) broadcasts_S512x1_S512x1024)
      (broadcastTo S512x1024 c2 broadcasts_S1x1024_S512x1024))
    (mulf (broadcast S512x1024 (Scalar.ofBits .f32 0x40000000#32))
      (addf (addf
        (matmul dot_S512x64_S64x1024_S512x1024_1_0_0_1_n_n none r (shapeCast S64x1024 h shapeCasts_S1x64x1024_S64x1024) (constant S512x1024 .f32 0x00000000#32))
        (matmul dot_S512x64_S64x1024_S512x1024_1_0_0_1_n_n none r (shapeCast S64x1024 m shapeCasts_S1x64x1024_S64x1024) (constant S512x1024 .f32 0x00000000#32)))
        (matmul dot_S512x64_S64x1024_S512x1024_1_0_0_1_n_n none r (shapeCast S64x1024 l shapeCasts_S1x64x1024_S64x1024) (constant S512x1024 .f32 0x00000000#32))))

/-- Which codes attain their row's least distance. -/
def marks (d : FVec F S512x1024 .f32) : IVec S512x1024 1 :=
  cmpf .oeq d (broadcastTo S512x1024 (shapeCast S512x1
    (multiReduction .minimumf [1] S512 d 0x7F800000#32 reduces_S512x1024_S512 (.inl rfl) rfl) shapeCasts_S512_S512x1)
    broadcasts_S512x1_S512x1024)

/-- The marked codes' numbers, 1024 elsewhere. -/
def cand (mk : IVec S512x1024 1) : IVec S512x1024 32 := select mk lane (broadcast S512x1024 1024#32)

/-- Each row's code number: the least marked one. -/
def code (mk : IVec S512x1024 1) : IVec S512x1 32 := k0_pay10 (cand mk)

/-- Each row's code, picked out of the codebook. -/
def pick (mk : IVec S512x1024 1) (cb : Vec F S1x1024x64 .f32) : FVec F S512x64 .f32 := k0_pay11 lane (cand mk) cb

/-- What the level leaves to the next: the rows less their codes. -/
def next (r : FVec F S512x64 .f32) (mk : IVec S512x1024 1) (cb : Vec F S1x1024x64 .f32) : FVec F S512x64 .f32 :=
  subf r (pick mk cb)

/-- The sum of all entries of a half tile. -/
def total (w : FVec F S512x64 .f32) : F .f32 :=
  extractAt ![0, 0, 0] (shapeCast S1x1x1 (multiReduction .add [1, 2] S1 (shapeCast S1x512x64 w shapeCasts_S512x64_S1x512x64)
    0x00000000#32 reduces_S1x512x64_S1 (.inl rfl) rfl) shapeCasts_S1_S1x1x1) inpos_S1x1x1_p0_0_0

/-- The level's squared error over the half tile. -/
def sqErr (r : FVec F S512x64 .f32) (mk : IVec S512x1024 1) (cb : Vec F S1x1024x64 .f32) : F .f32 :=
  total (mulf (subf (pick mk cb) r) (subf (pick mk cb) r))

section printed

variable (r : FVec F S512x64 .f32) (c2 : FVec F S1x1024 .f32) (cb cb' : Vec F S1x1024x64 .f32) (h m l : Vec F S1x64x1024 .f32)
  (mk : IVec S512x1024 1) (d : FVec F S512x1024 .f32) (e t : F .f32) (v : IVec S512x1 32)

/-! ### Level 0 -/

theorem pay8_eq : k0_pay8 cb = norms cb := rfl
theorem pay9_eq : k0_pay9 r cb h m l = cand (marks (dist r (norms cb) h m l)) := rfl
theorem pay10_eq : k0_pay10 (cand mk) = code mk := rfl
theorem pay12_eq : k0_pay12 r lane (cand mk) cb = next r mk cb := rfl
theorem pay13_eq : k0_pay13 r lane (cand mk) cb = sqErr r mk cb := rfl
theorem pay14_eq : k0_pay14 r c2 h m l = marks (dist r c2 h m l) := rfl
theorem pay17_eq : k0_pay17 r lane mk cb = next r mk cb := rfl
theorem pay18_eq : k0_pay18 r lane e mk cb = Scalar.addf (Scalar.ofBits .f32 0x00000000#32) (Scalar.addf e (sqErr r mk cb)) := rfl
theorem pay20_eq : k0_pay20 lane mk = k0_pay19 (code mk) := rfl

/-! ### Level 1 -/

theorem pay21_eq : k0_pay21 cb = norms cb := rfl
theorem pay24_eq : k0_pay24 lane r c2 (k0_pay22 r) (k0_pay23 h) m l = code (marks (dist r c2 h m l)) := rfl
theorem pay26_eq : k0_pay26 lane r c2 (k0_pay22 r) (k0_pay23 h) m l cb = next r (marks (dist r c2 h m l)) cb := rfl
theorem pay27_eq : k0_pay27 lane r c2 (k0_pay22 r) (k0_pay23 h) m l cb = sqErr r (marks (dist r c2 h m l)) cb := rfl
theorem pay29_eq : k0_pay29 lane r c2 (k0_pay28 r) h m l = code (marks (dist r c2 h m l)) := rfl
theorem pay31_eq : k0_pay31 lane r c2 (k0_pay28 r) h m l cb = next r (marks (dist r c2 h m l)) cb := rfl
theorem pay32_eq : k0_pay32 lane r c2 e (k0_pay28 r) h m l cb = Scalar.addf e (sqErr r (marks (dist r c2 h m l)) cb) := rfl
theorem pay33_eq : k0_pay33 t e = Scalar.addf t e := rfl

/-! ### Level 2 -/

theorem pay36_eq : k0_pay36 cb = norms cb := rfl
theorem pay39_eq : k0_pay39 lane (k0_pay37 r cb h m l) (k0_pay38 r cb h m l) = code (marks (dist r (norms cb) h m l)) := rfl
theorem pay41_eq : k0_pay41 lane r (k0_pay37 r cb h m l) (k0_pay38 r cb h m l) cb' =
    next r (marks (dist r (norms cb) h m l)) cb' := rfl
theorem pay42_eq : k0_pay42 lane r (k0_pay37 r cb h m l) (k0_pay38 r cb h m l) cb' =
    sqErr r (marks (dist r (norms cb) h m l)) cb' := rfl
theorem pay46_eq : k0_pay46 lane (k0_pay43 r h m l) (k0_pay44 r c2) k0_pay45 = code (marks (dist r c2 h m l)) := rfl
theorem pay48_eq : k0_pay48 lane r (k0_pay43 r h m l) (k0_pay44 r c2) k0_pay45 cb = next r (marks (dist r c2 h m l)) cb := rfl
theorem pay49_eq : k0_pay49 lane r t e (k0_pay43 r h m l) (k0_pay44 r c2) k0_pay45 cb =
    Scalar.addf t (Scalar.addf e (sqErr r (marks (dist r c2 h m l)) cb)) := rfl
theorem pay51_eq : k0_pay51 lane (k0_pay43 r h m l) (k0_pay44 r c2) k0_pay45 = k0_pay19 (code (marks (dist r c2 h m l))) := rfl

/-! ### Level 3 and the end of the body -/

theorem pay52_eq : k0_pay52 cb = norms cb := rfl
theorem pay54_eq : k0_pay54 lane r c2 (k0_pay53 r) h m l = code (marks (dist r c2 h m l)) := rfl
theorem pay56_eq : k0_pay56 lane r c2 (k0_pay53 r) h m l cb = next r (marks (dist r c2 h m l)) cb := rfl
theorem pay58_eq : k0_pay58 (k0_pay57 lane r c2 (k0_pay53 r) h m l cb) = sqErr r (marks (dist r c2 h m l)) cb := rfl
theorem pay59_eq : k0_pay59 lane r c2 h m l = code (marks (dist r c2 h m l)) := rfl
theorem pay61_eq : k0_pay61 lane r c2 h m l cb = next r (marks (dist r c2 h m l)) cb := rfl
theorem pay1_eq : k0_pay1 t e (k0_pay62 lane r c2 h m l cb) = Scalar.addf t (Scalar.addf e (sqErr r (marks (dist r c2 h m l)) cb)) := rfl
theorem pay6_eq (t b : F .f32) (w : FVec F S512x64 .f32) : k0_pay6 t b w = broadcast S1x1 (k0_pay1 t b w) := rfl
theorem pay7_eq (t b : F .f32) (w : FVec F S512x64 .f32) (o : Vec F S1x1 .f32) :
    k0_pay7 t b w o = addf o (broadcast S1x1 (k0_pay1 t b w)) := by
  unfold k0_pay7; dsimp only; rw [shapeCast_self]
theorem pay4_eq (x : Vec F S512x64 .f32) : k0_pay4 r x = subf x r := rfl
theorem pay5_eq (x : Vec F S512x64 .f32) : k0_pay5 r x = subf x r := rfl

/-- A column of code numbers survives its two reshapes. -/
theorem pay19_eq : k0_pay19 v = v := by
  unfold k0_pay19; dsimp only; rw [shapeCast_shapeCast]
theorem pay2_eq : k0_pay2 v = k0_pay19 v := rfl
theorem pay3_eq : k0_pay3 v = k0_pay19 v := rfl
theorem pay34_eq : k0_pay34 v = k0_pay19 v := rfl
theorem pay35_eq : k0_pay35 v = k0_pay19 v := rfl
theorem pay50_eq : k0_pay50 v = k0_pay19 v := rfl

end printed

end Cert.KernelIdeal.Value
-- ==== Proof.KerBlocks.lean ====
/-
  What one point of the grid leaves in the kernel's three output windows, by the level functions of `KerStages`.

  A point's tile is two halves of 512 rows. Each half goes through four levels; the tile's three results are its rows
  less what the last level leaves (window 5), the code numbers (window 6) and the sum of the squared errors (window 7),
  which the first point stores and each later point adds to what is there.
-/
module

public import proofs.«01_k».proof.Proof.KerStages
public import Idealize.ShloMosaic.Lib.ValueIdxCoords
public import Idealize.ShloMosaic.Lib.Tactic

@[expose] public section

set_option maxRecDepth 65536

noncomputable section

open Idealize.ShloMosaic Idealize.ShloMosaic.TcCoe

namespace Cert.KernelIdeal.Value

open Idealize.ShloMosaic.ValueIdx

open Cert.KernelIdeal Cert.KernelIdeal.Gen

variable {F : FTy → Type} [FloatOps F]

/-- Codebook `i` of the four. -/
def codesAt (x : Vec F S4x1024x64 .f32) (i : Fin 4) : Vec F S1x1024x64 .f32 := fun j => x (ix3 i (j 1) (j 2))

/-- Part `i` of the four of a transposed codebook. -/
def partAt (x : Vec F S4x64x1024 .f32) (i : Fin 4) : Vec F S1x64x1024 .f32 := fun j => x (ix3 i (j 1) (j 2))

/-- The tile's first 512 rows, or its last 512. -/
def half (x : Vec F S1024x64 .f32) (b : Fin 2) : Vec F S512x64 .f32 :=
  fun j => x (ix2 ⟨512 * b.val + (j 0).val, by have := b.isLt; have : (j 0).val < 512 := (j 0).isLt; omega⟩ (j 1))

theorem ld_codes (x : Vec F S4x1024x64 .f32) (i : Fin 4) (inb) :
    View.ld x (Rect.unit (s := S4x1024x64) ![i.val, 0, 0] S1x1024x64.size inb) = codesAt x i := by
  funext j
  rw [View.ld_unit]
  exact congrArg x (funext fun a => by
    match a with
    | ⟨0, _⟩ => exact Fin.ext (by have : (j 0).val < 1 := (j 0).isLt; show i.val + (j 0).val = i.val; omega)
    | ⟨1, _⟩ => exact Fin.ext (by show 0 + (j 1).val = (j 1).val; omega)
    | ⟨2, _⟩ => exact Fin.ext (by show 0 + (j 2).val = (j 2).val; omega))

theorem ld_part (x : Vec F S4x64x1024 .f32) (i : Fin 4) (inb) :
    View.ld x (Rect.unit (s := S4x64x1024) ![i.val, 0, 0] S1x64x1024.size inb) = partAt x i := by
  funext j
  rw [View.ld_unit]
  exact congrArg x (funext fun a => by
    match a with
    | ⟨0, _⟩ => exact Fin.ext (by have : (j 0).val < 1 := (j 0).isLt; show i.val + (j 0).val = i.val; omega)
    | ⟨1, _⟩ => exact Fin.ext (by show 0 + (j 1).val = (j 1).val; omega)
    | ⟨2, _⟩ => exact Fin.ext (by show 0 + (j 2).val = (j 2).val; omega))

theorem ld_half (x : Vec F S1024x64 .f32) (b : Fin 2) (inb) :
    View.ld x (Rect.unit (s := S1024x64) ![512 * b.val, 0] S512x64.size inb) = half x b := by
  funext j
  rw [View.ld_unit]
  exact congrArg x (funext fun a => by
    match a with
    | ⟨0, _⟩ => exact Fin.ext rfl
    | ⟨1, _⟩ => exact Fin.ext (by show 0 + (j 1).val = (j 1).val; omega))

/-! The loads at the printed offsets. -/

theorem ld_half0 (x : Vec F S1024x64 .f32) (inb) : View.ld x (Rect.unit (s := S1024x64) ![0, 0] ![512, 64] inb) = half x 0 := ld_half x 0 inb
theorem ld_half1 (x : Vec F S1024x64 .f32) (inb) : View.ld x (Rect.unit (s := S1024x64) ![512, 0] ![512, 64] inb) = half x 1 := ld_half x 1 inb
theorem ld_codes0 (x : Vec F S4x1024x64 .f32) (inb) : View.ld x (Rect.unit (s := S4x1024x64) ![0, 0, 0] ![1, 1024, 64] inb) = codesAt x 0 := ld_codes x 0 inb
theorem ld_codes1 (x : Vec F S4x1024x64 .f32) (inb) : View.ld x (Rect.unit (s := S4x1024x64) ![1, 0, 0] ![1, 1024, 64] inb) = codesAt x 1 := ld_codes x 1 inb
theorem ld_codes2 (x : Vec F S4x1024x64 .f32) (inb) : View.ld x (Rect.unit (s := S4x1024x64) ![2, 0, 0] ![1, 1024, 64] inb) = codesAt x 2 := ld_codes x 2 inb
theorem ld_codes3 (x : Vec F S4x1024x64 .f32) (inb) : View.ld x (Rect.unit (s := S4x1024x64) ![3, 0, 0] ![1, 1024, 64] inb) = codesAt x 3 := ld_codes x 3 inb
theorem ld_part0 (x : Vec F S4x64x1024 .f32) (inb) : View.ld x (Rect.unit (s := S4x64x1024) ![0, 0, 0] ![1, 64, 1024] inb) = partAt x 0 := ld_part x 0 inb
theorem ld_part1 (x : Vec F S4x64x1024 .f32) (inb) : View.ld x (Rect.unit (s := S4x64x1024) ![1, 0, 0] ![1, 64, 1024] inb) = partAt x 1 := ld_part x 1 inb
theorem ld_part2 (x : Vec F S4x64x1024 .f32) (inb) : View.ld x (Rect.unit (s := S4x64x1024) ![2, 0, 0] ![1, 64, 1024] inb) = partAt x 2 := ld_part x 2 inb
theorem ld_part3 (x : Vec F S4x64x1024 .f32) (inb) : View.ld x (Rect.unit (s := S4x64x1024) ![3, 0, 0] ![1, 64, 1024] inb) = partAt x 3 := ld_part x 3 inb

theorem hz : (![0, 0] : Fin 2 → Nat) = fun _ => 0 := funext fun a => by fin_cases a <;> rfl

/-- The marks of level `i` at rows `r`. -/
def lev (x1 : Vec F S4x1024x64 .f32) (x2 x3 x4 : Vec F S4x64x1024 .f32) (i : Fin 4) (r : FVec F S512x64 .f32) : IVec S512x1024 1 :=
  marks (dist r (norms (codesAt x1 i)) (partAt x2 i) (partAt x3 i) (partAt x4 i))

/-- One level: the rows less their codes. -/
def step (x1 : Vec F S4x1024x64 .f32) (x2 x3 x4 : Vec F S4x64x1024 .f32) (i : Fin 4) (r : FVec F S512x64 .f32) : FVec F S512x64 .f32 :=
  next r (lev x1 x2 x3 x4 i r) (codesAt x1 i)

/-- What the first `n` levels leave of the rows `r`. -/
def rest (x1 : Vec F S4x1024x64 .f32) (x2 x3 x4 : Vec F S4x64x1024 .f32) (r : FVec F S512x64 .f32) : ℕ → FVec F S512x64 .f32
  | 0 => r
  | n + 1 => step x1 x2 x3 x4 (Fin.ofNat 4 n) (rest x1 x2 x3 x4 r n)

/-- A half's squared error at level `n`. -/
def errAt (x1 : Vec F S4x1024x64 .f32) (x2 x3 x4 : Vec F S4x64x1024 .f32) (r : FVec F S512x64 .f32) (n : ℕ) : F .f32 :=
  sqErr (rest x1 x2 x3 x4 r n) (lev x1 x2 x3 x4 (Fin.ofNat 4 n) (rest x1 x2 x3 x4 r n)) (codesAt x1 (Fin.ofNat 4 n))

/-- A half's code numbers at level `n`. -/
def codeAt (x1 : Vec F S4x1024x64 .f32) (x2 x3 x4 : Vec F S4x64x1024 .f32) (r : FVec F S512x64 .f32) (n : ℕ) : IVec S512x1 32 :=
  code (lev x1 x2 x3 x4 (Fin.ofNat 4 n) (rest x1 x2 x3 x4 r n))

/-- The tile's squared error over the first `n` levels. -/
def tileErr (x0 : Vec F S1024x64 .f32) (x1 : Vec F S4x1024x64 .f32) (x2 x3 x4 : Vec F S4x64x1024 .f32) : ℕ → F .f32
  | 0 => Scalar.ofBits .f32 0x00000000#32
  | n + 1 => Scalar.addf (tileErr x0 x1 x2 x3 x4 n)
      (Scalar.addf (errAt x1 x2 x3 x4 (half x0 0) n) (errAt x1 x2 x3 x4 (half x0 1) n))

section runs

variable (c : Dev nD) (i : grid0.Coords) (arg1 : Memref sig .tc .vmem S1024x64 .f32) (harg1 : arg1.IsWhole) (arg2 : Memref sig .tc .vmem S4x1024x64 .f32) (harg2 : arg2.IsWhole) (arg3 : Memref sig .tc .vmem S4x64x1024 .f32) (harg3 : arg3.IsWhole) (arg4 : Memref sig .tc .vmem S4x64x1024 .f32) (harg4 : arg4.IsWhole) (arg5 : Memref sig .tc .vmem S4x64x1024 .f32) (harg5 : arg5.IsWhole) (arg6 : Memref sig .tc .vmem S1024x64 .f32) (harg6 : arg6.IsWhole) (arg7 : Memref sig .tc .vmem S1024x4 .i32) (harg7 : arg7.IsWhole) (arg8 : Memref sig .tc .vmem S1x1 .f32) (harg8 : arg8.IsWhole)
  (x0 : Vec F S1024x64 .f32) (x1 : Vec F S4x1024x64 .f32) (x2 : Vec F S4x64x1024 .f32) (x3 : Vec F S4x64x1024 .f32) (x4 : Vec F S4x64x1024 .f32) (xo7 : Vec F S1x1 .f32)

/-- The stores into window 5: each half's rows less what its four levels leave. -/
def pieces5 : List (View.Piece (Elt F) S1024x64 .f32) :=
  [⟨Rect.unit (s := S1024x64) ![512, 0] S512x64.size inb_S1024x64_S512x64_512_0, subf (half x0 1) (rest x1 x2 x3 x4 (half x0 1) 4)⟩,
   ⟨Rect.unit (s := S1024x64) ![0, 0] S512x64.size inb_S1024x64_S512x64_0_0, subf (half x0 0) (rest x1 x2 x3 x4 (half x0 0) 4)⟩]

/-- The stores into window 6: each level's code numbers, half by half. -/
def pieces6 : List (View.Piece (Elt F) S1024x4 .i32) :=
  [⟨Rect.unit (s := S1024x4) ![512, 3] S512x1.size inb_S1024x4_S512x1_512_3, codeAt x1 x2 x3 x4 (half x0 1) 3⟩,
   ⟨Rect.unit (s := S1024x4) ![0, 3] S512x1.size inb_S1024x4_S512x1_0_3, codeAt x1 x2 x3 x4 (half x0 0) 3⟩,
   ⟨Rect.unit (s := S1024x4) ![512, 2] S512x1.size inb_S1024x4_S512x1_512_2, codeAt x1 x2 x3 x4 (half x0 1) 2⟩,
   ⟨Rect.unit (s := S1024x4) ![0, 2] S512x1.size inb_S1024x4_S512x1_0_2, codeAt x1 x2 x3 x4 (half x0 0) 2⟩,
   ⟨Rect.unit (s := S1024x4) ![512, 1] S512x1.size inb_S1024x4_S512x1_512_1, codeAt x1 x2 x3 x4 (half x0 1) 1⟩,
   ⟨Rect.unit (s := S1024x4) ![0, 1] S512x1.size inb_S1024x4_S512x1_0_1, codeAt x1 x2 x3 x4 (half x0 0) 1⟩,
   ⟨Rect.unit (s := S1024x4) ![512, 0] S512x1.size inb_S1024x4_S512x1_512_0, codeAt x1 x2 x3 x4 (half x0 1) 0⟩,
   ⟨Rect.unit (s := S1024x4) ![0, 0] S512x1.size inb_S1024x4_S512x1_0_0, codeAt x1 x2 x3 x4 (half x0 0) 0⟩]

/-- The first point's stores. -/
theorem run_A (hc0 : cond0_0 i) (hc1 : ¬cond0_1 i) :
    (kernelRun0_A c i arg1 harg1 arg2 harg2 arg3 harg3 arg4 harg4 arg5 harg5 arg6 harg6 arg7 harg7 arg8 harg8 hc0 hc1 x0 x1 x2 x3 x4).1 = pieces5 x0 x1 x2 x3 x4
    ∧ (kernelRun0_A c i arg1 harg1 arg2 harg2 arg3 harg3 arg4 harg4 arg5 harg5 arg6 harg6 arg7 harg7 arg8 harg8 hc0 hc1 x0 x1 x2 x3 x4).2.1 = pieces6 x0 x1 x2 x3 x4
    ∧ (kernelRun0_A c i arg1 harg1 arg2 harg2 arg3 harg3 arg4 harg4 arg5 harg5 arg6 harg6 arg7 harg7 arg8 harg8 hc0 hc1 x0 x1 x2 x3 x4).2.2.1 =
      [⟨Rect.unit (s := S1x1) ![0, 0] S1x1.size inb_S1x1_S1x1_0_0, broadcast S1x1 (tileErr x0 x1 x2 x3 x4 4)⟩] := by
  unfold kernelRun0_A pieces5 pieces6
  dsimp only
  sl_unfold_words
  simp only [View.readAt_eq_ld, harg1.read_unread, harg2.read_unread, harg3.read_unread, harg4.read_unread, harg5.read_unread]
  simp only [ld_half0, ld_half1, ld_codes0, ld_codes1, ld_codes2, ld_codes3, ld_part0, ld_part1, ld_part2, ld_part3]
  simp (disch := exact rfl) only [lane_eq]
  simp only [pay1_eq, pay2_eq, pay3_eq, pay4_eq, pay5_eq, pay6_eq, pay8_eq, pay9_eq, pay10_eq, pay12_eq, pay13_eq, pay14_eq,
    pay17_eq, pay18_eq, pay19_eq, pay20_eq, pay21_eq, pay24_eq, pay26_eq, pay27_eq, pay29_eq, pay31_eq, pay32_eq, pay33_eq,
    pay34_eq, pay35_eq, pay36_eq, pay39_eq, pay41_eq, pay42_eq, pay46_eq, pay48_eq, pay49_eq, pay50_eq,
    pay51_eq, pay52_eq, pay54_eq, pay56_eq, pay58_eq, pay59_eq, pay61_eq]

  exact ⟨rfl, rfl, rfl⟩

/-- A later point's stores. -/
theorem run_B (hc0 : ¬cond0_0 i) (hc1 : cond0_1 i) :
    (kernelRun0_B c i arg1 harg1 arg2 harg2 arg3 harg3 arg4 harg4 arg5 harg5 arg6 harg6 arg7 harg7 arg8 harg8 hc0 hc1 x0 x1 x2 x3 x4 xo7).1 = pieces5 x0 x1 x2 x3 x4
    ∧ (kernelRun0_B c i arg1 harg1 arg2 harg2 arg3 harg3 arg4 harg4 arg5 harg5 arg6 harg6 arg7 harg7 arg8 harg8 hc0 hc1 x0 x1 x2 x3 x4 xo7).2.1 = pieces6 x0 x1 x2 x3 x4
    ∧ (kernelRun0_B c i arg1 harg1 arg2 harg2 arg3 harg3 arg4 harg4 arg5 harg5 arg6 harg6 arg7 harg7 arg8 harg8 hc0 hc1 x0 x1 x2 x3 x4 xo7).2.2.1 =
      [⟨Rect.unit (s := S1x1) ![0, 0] S1x1.size inb_S1x1_S1x1_0_0, addf xo7 (broadcast S1x1 (tileErr x0 x1 x2 x3 x4 4))⟩] := by
  unfold kernelRun0_B pieces5 pieces6
  dsimp only
  sl_unfold_words
  simp only [View.readAt_eq_ld, harg1.read_unread, harg2.read_unread, harg3.read_unread, harg4.read_unread, harg5.read_unread, harg8.read_unread]
  simp only [ld_half0, ld_half1, ld_codes0, ld_codes1, ld_codes2, ld_codes3, ld_part0, ld_part1, ld_part2, ld_part3, View.ld_unit_zero (S := S1x1) hz, pay7_eq]
  simp (disch := exact rfl) only [lane_eq]
  simp only [pay1_eq, pay2_eq, pay3_eq, pay4_eq, pay5_eq, pay6_eq, pay8_eq, pay9_eq, pay10_eq, pay12_eq, pay13_eq, pay14_eq,
    pay17_eq, pay18_eq, pay19_eq, pay20_eq, pay21_eq, pay24_eq, pay26_eq, pay27_eq, pay29_eq, pay31_eq, pay32_eq, pay33_eq,
    pay34_eq, pay35_eq, pay36_eq, pay39_eq, pay41_eq, pay42_eq, pay46_eq, pay48_eq, pay49_eq, pay50_eq,
    pay51_eq, pay52_eq, pay54_eq, pay56_eq, pay58_eq, pay59_eq, pay61_eq]
  exact ⟨rfl, rfl, rfl⟩

end runs

end Cert.KernelIdeal.Value
-- ==== Proof.KerTiles.lean ====
/-
  What one point of the grid leaves in the three output windows, entry by entry.
-/
module

public import proofs.«01_k».proof.Proof.KerBlocks
public import Idealize.ShloMosaic.Lib.Pipeline.Value

@[expose] public section

set_option maxRecDepth 65536

noncomputable section

open Idealize.ShloMosaic Idealize.ShloMosaic.TcCoe

namespace Cert.KernelIdeal.Value

open Idealize.ShloMosaic.ValueIdx

open Cert.KernelIdeal Cert.KernelIdeal.Gen

variable {F : FTy → Type} [FloatOps F]

/-- The half of the tile that row `n` lies in. -/
def hb (n : Fin 1024) : Fin 2 := ⟨n.val / 512, by have := n.isLt; omega⟩

/-- The place of row `n` in its half. -/
def hr (n : Fin 1024) : Fin 512 := ⟨n.val % 512, Nat.mod_lt _ (by norm_num)⟩

/-- Row `n` of a half whose number and place are known. -/
theorem hb_eq (b : Fin 2) (k : Fin 512) (n : Fin 1024) (h : n.val = 512 * b.val + k.val) : hb n = b ∧ hr n = k := by
  have := b.isLt; have := k.isLt
  exact ⟨Fin.ext (by show n.val / 512 = b.val; omega), Fin.ext (by show n.val % 512 = k.val; omega)⟩

/-- The tile of window 5: each row less what its four levels leave. -/
def xqTile (x0 : Vec F S1024x64 .f32) (x1 : Vec F S4x1024x64 .f32) (x2 x3 x4 : Vec F S4x64x1024 .f32) : Vec F S1024x64 .f32 :=
  fun y => subf (half x0 (hb (y 0))) (rest x1 x2 x3 x4 (half x0 (hb (y 0))) 4) (ix2 (hr (y 0)) (y 1))

/-- The tile of window 6: each row's code numbers, one a level. -/
def idxTile (x0 : Vec F S1024x64 .f32) (x1 : Vec F S4x1024x64 .f32) (x2 x3 x4 : Vec F S4x64x1024 .f32) : Vec F S1024x4 .i32 :=
  fun y => codeAt x1 x2 x3 x4 (half x0 (hb (y 0))) (y 1).val (ix2 (hr (y 0)) 0)

variable (x0 : Vec F S1024x64 .f32) (x1 : Vec F S4x1024x64 .f32) (x2 : Vec F S4x64x1024 .f32) (x3 : Vec F S4x64x1024 .f32) (x4 : Vec F S4x64x1024 .f32)

/-- A store of half `b` into window 5 writes the tile's entries. -/
theorem xqTile_piece (b : Fin 2) (o : Nat) (ho : o = 512 * b.val) (inb) (x : S512x64.Idx) :
    subf (half x0 b) (rest x1 x2 x3 x4 (half x0 b) 4) x
      = xqTile x0 x1 x2 x3 x4 ((Rect.unit (s := S1024x64) ![o, 0] S512x64.size inb).emb x) := by
  obtain ⟨e1, e2⟩ := hb_eq b (x 0) (((Rect.unit (s := S1024x64) ![o, 0] S512x64.size inb).emb x) 0)
    (by rw [Rect.emb_apply]; show o + 1 * (x 0).val = _; rw [ho, one_mul])
  have e3 : ((Rect.unit (s := S1024x64) ![o, 0] S512x64.size inb).emb x) 1 = x 1 :=
    Fin.ext (by rw [Rect.emb_apply]; show 0 + 1 * (x 1).val = _; omega)
  unfold xqTile
  rw [e1, e2, e3]
  exact congrArg _ (eq_ix2 x)

/-- A store of half `b` at level `l` into window 6 writes the tile's entries. -/
theorem idxTile_piece (b : Fin 2) (l : Fin 4) (o : Nat) (ho : o = 512 * b.val) (inb) (x : S512x1.Idx) :
    codeAt x1 x2 x3 x4 (half x0 b) l.val x
      = idxTile x0 x1 x2 x3 x4 ((Rect.unit (s := S1024x4) ![o, l.val] S512x1.size inb).emb x) := by
  obtain ⟨e1, e2⟩ := hb_eq b (x 0) (((Rect.unit (s := S1024x4) ![o, l.val] S512x1.size inb).emb x) 0)
    (by rw [Rect.emb_apply]; show o + 1 * (x 0).val = _; rw [ho, one_mul])
  have e4 : x 1 = (0 : Fin 1) := Subsingleton.elim (α := Fin 1) _ _
  have e3 : (((Rect.unit (s := S1024x4) ![o, l.val] S512x1.size inb).emb x) 1).val = l.val := by
    rw [Rect.emb_apply]; show l.val + 1 * (x 1).val = _; rw [e4]; rfl
  unfold idxTile
  rw [e1, e2, e3, ← e4]
  exact congrArg _ (eq_ix2 x)

/-- The stores into window 5 leave the tile. -/
theorem canon_pieces5 (h : ∀ y : S1024x64.Idx, ∃ p ∈ pieces5 x0 x1 x2 x3 x4, y ∈ p.1.set) :
    View.canon (pieces5 x0 x1 x2 x3 x4) = xqTile x0 x1 x2 x3 x4 := by
  funext y
  refine View.canon_apply_of_pieces _ _ ?_ y (h y)
  unfold pieces5
  simp only [List.forall_mem_cons]
  exact ⟨xqTile_piece x0 x1 x2 x3 x4 1 512 rfl _, xqTile_piece x0 x1 x2 x3 x4 0 0 rfl _, fun _ h => absurd h List.not_mem_nil⟩

/-- The stores into window 6 leave the tile. -/
theorem canon_pieces6 (h : ∀ y : S1024x4.Idx, ∃ p ∈ pieces6 x0 x1 x2 x3 x4, y ∈ p.1.set) :
    View.canon (pieces6 x0 x1 x2 x3 x4) = idxTile x0 x1 x2 x3 x4 := by
  funext y
  refine View.canon_apply_of_pieces _ _ ?_ y (h y)
  unfold pieces6
  simp only [List.forall_mem_cons]
  exact ⟨idxTile_piece x0 x1 x2 x3 x4 1 3 512 rfl _, idxTile_piece x0 x1 x2 x3 x4 0 3 0 rfl _,
    idxTile_piece x0 x1 x2 x3 x4 1 2 512 rfl _, idxTile_piece x0 x1 x2 x3 x4 0 2 0 rfl _,
    idxTile_piece x0 x1 x2 x3 x4 1 1 512 rfl _, idxTile_piece x0 x1 x2 x3 x4 0 1 0 rfl _,
    idxTile_piece x0 x1 x2 x3 x4 1 0 512 rfl _, idxTile_piece x0 x1 x2 x3 x4 0 0 0 rfl _, fun _ h => absurd h List.not_mem_nil⟩

section runs

variable (c : Dev nD) (i : grid0.Coords) (arg1 : Memref sig .tc .vmem S1024x64 .f32) (harg1 : arg1.IsWhole) (arg2 : Memref sig .tc .vmem S4x1024x64 .f32) (harg2 : arg2.IsWhole) (arg3 : Memref sig .tc .vmem S4x64x1024 .f32) (harg3 : arg3.IsWhole) (arg4 : Memref sig .tc .vmem S4x64x1024 .f32) (harg4 : arg4.IsWhole) (arg5 : Memref sig .tc .vmem S4x64x1024 .f32) (harg5 : arg5.IsWhole) (arg6 : Memref sig .tc .vmem S1024x64 .f32) (harg6 : arg6.IsWhole) (arg7 : Memref sig .tc .vmem S1024x4 .i32) (harg7 : arg7.IsWhole) (arg8 : Memref sig .tc .vmem S1x1 .f32) (harg8 : arg8.IsWhole) (xo7 : Vec F S1x1 .f32)

/-- Window 5 after the first point. -/
theorem out5_A (hc0 : cond0_0 i) (hc1 : ¬cond0_1 i) :
    out0_A_5 c i arg1 harg1 arg2 harg2 arg3 harg3 arg4 harg4 arg5 harg5 arg6 harg6 arg7 harg7 arg8 harg8 hc0 hc1 x0 x1 x2 x3 x4 = xqTile x0 x1 x2 x3 x4 := by
  have hcov := cover0_A_5 c i arg1 harg1 arg2 harg2 arg3 harg3 arg4 harg4 arg5 harg5 arg6 harg6 arg7 harg7 arg8 harg8 hc0 hc1 x0 x1 x2 x3 x4
  unfold out0_A_5
  rw [View.read_writes_eq_canon _ _ _ hcov]
  rw [(run_A c i arg1 harg1 arg2 harg2 arg3 harg3 arg4 harg4 arg5 harg5 arg6 harg6 arg7 harg7 arg8 harg8 x0 x1 x2 x3 x4 hc0 hc1).1] at hcov ⊢
  exact canon_pieces5 x0 x1 x2 x3 x4 hcov

/-- Window 6 after the first point. -/
theorem out6_A (hc0 : cond0_0 i) (hc1 : ¬cond0_1 i) :
    out0_A_6 c i arg1 harg1 arg2 harg2 arg3 harg3 arg4 harg4 arg5 harg5 arg6 harg6 arg7 harg7 arg8 harg8 hc0 hc1 x0 x1 x2 x3 x4 = idxTile x0 x1 x2 x3 x4 := by
  have hcov := cover0_A_6 c i arg1 harg1 arg2 harg2 arg3 harg3 arg4 harg4 arg5 harg5 arg6 harg6 arg7 harg7 arg8 harg8 hc0 hc1 x0 x1 x2 x3 x4
  unfold out0_A_6
  rw [View.read_writes_eq_canon _ _ _ hcov]
  rw [(run_A c i arg1 harg1 arg2 harg2 arg3 harg3 arg4 harg4 arg5 harg5 arg6 harg6 arg7 harg7 arg8 harg8 x0 x1 x2 x3 x4 hc0 hc1).2.1] at hcov ⊢
  exact canon_pieces6 x0 x1 x2 x3 x4 hcov

/-- Window 7 after the first point. -/
theorem out7_A (hc0 : cond0_0 i) (hc1 : ¬cond0_1 i) :
    out0_A_7 c i arg1 harg1 arg2 harg2 arg3 harg3 arg4 harg4 arg5 harg5 arg6 harg6 arg7 harg7 arg8 harg8 hc0 hc1 x0 x1 x2 x3 x4 = broadcast S1x1 (tileErr x0 x1 x2 x3 x4 4) := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4), (run_A c i arg1 harg1 arg2 harg2 arg3 harg3 arg4 harg4 arg5 harg5 arg6 harg6 arg7 harg7 arg8 harg8 x0 x1 x2 x3 x4 hc0 hc1).2.2, View.canon_unit_zero hz]

/-- Window 5 after a later point. -/
theorem out5_B (hc0 : ¬cond0_0 i) (hc1 : cond0_1 i) :
    out0_B_5 c i arg1 harg1 arg2 harg2 arg3 harg3 arg4 harg4 arg5 harg5 arg6 harg6 arg7 harg7 arg8 harg8 hc0 hc1 x0 x1 x2 x3 x4 xo7 = xqTile x0 x1 x2 x3 x4 := by
  have hcov := cover0_B_5 c i arg1 harg1 arg2 harg2 arg3 harg3 arg4 harg4 arg5 harg5 arg6 harg6 arg7 harg7 arg8 harg8 hc0 hc1 x0 x1 x2 x3 x4 xo7
  unfold out0_B_5
  rw [View.read_writes_eq_canon _ _ _ hcov]
  rw [(run_B c i arg1 harg1 arg2 harg2 arg3 harg3 arg4 harg4 arg5 harg5 arg6 harg6 arg7 harg7 arg8 harg8 x0 x1 x2 x3 x4 xo7 hc0 hc1).1] at hcov ⊢
  exact canon_pieces5 x0 x1 x2 x3 x4 hcov

/-- Window 6 after a later point. -/
theorem out6_B (hc0 : ¬cond0_0 i) (hc1 : cond0_1 i) :
    out0_B_6 c i arg1 harg1 arg2 harg2 arg3 harg3 arg4 harg4 arg5 harg5 arg6 harg6 arg7 harg7 arg8 harg8 hc0 hc1 x0 x1 x2 x3 x4 xo7 = idxTile x0 x1 x2 x3 x4 := by
  have hcov := cover0_B_6 c i arg1 harg1 arg2 harg2 arg3 harg3 arg4 harg4 arg5 harg5 arg6 harg6 arg7 harg7 arg8 harg8 hc0 hc1 x0 x1 x2 x3 x4 xo7
  unfold out0_B_6
  rw [View.read_writes_eq_canon _ _ _ hcov]
  rw [(run_B c i arg1 harg1 arg2 harg2 arg3 harg3 arg4 harg4 arg5 harg5 arg6 harg6 arg7 harg7 arg8 harg8 x0 x1 x2 x3 x4 xo7 hc0 hc1).2.1] at hcov ⊢
  exact canon_pieces6 x0 x1 x2 x3 x4 hcov

/-- Window 7 after a later point. -/
theorem out7_B (hc0 : ¬cond0_0 i) (hc1 : cond0_1 i) :
    out0_B_7 c i arg1 harg1 arg2 harg2 arg3 harg3 arg4 harg4 arg5 harg5 arg6 harg6 arg7 harg7 arg8 harg8 hc0 hc1 x0 x1 x2 x3 x4 xo7 = addf xo7 (broadcast S1x1 (tileErr x0 x1 x2 x3 x4 4)) := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 xo7), (run_B c i arg1 harg1 arg2 harg2 arg3 harg3 arg4 harg4 arg5 harg5 arg6 harg6 arg7 harg7 arg8 harg8 x0 x1 x2 x3 x4 xo7 hc0 hc1).2.2, View.canon_unit_zero hz]

end runs

variable (m : (ℓ : Loc nD τ sig) → Buf (Elt F) ℓ) (c : Dev nD)

/-- The squared error of point `t`'s tile. -/
def errOf (t : Fin cfg0.N) : F .f32 := tileErr (iblk m c 0 t) (iblk m c 1 t) (iblk m c 2 t) (iblk m c 3 t) (iblk m c 4 t) 4

/-- The running sum of the tiles' squared errors, through point `n`. -/
def lossAt : (n : ℕ) → n < cfg0.N → Vec F S1x1 .f32
  | 0, h => broadcast S1x1 (errOf m c ⟨0, h⟩)
  | n + 1, h => addf (lossAt n (Nat.lt_of_succ_lt h)) (broadcast S1x1 (errOf m c ⟨n + 1, h⟩))

/-- What each point leaves in the three output windows. -/
theorem outsAt0_eq : ∀ (n : ℕ) (h : n < cfg0.N), outsAt0 m c n h =
    (xqTile (iblk m c 0 ⟨n, h⟩) (iblk m c 1 ⟨n, h⟩) (iblk m c 2 ⟨n, h⟩) (iblk m c 3 ⟨n, h⟩) (iblk m c 4 ⟨n, h⟩),
     idxTile (iblk m c 0 ⟨n, h⟩) (iblk m c 1 ⟨n, h⟩) (iblk m c 2 ⟨n, h⟩) (iblk m c 3 ⟨n, h⟩) (iblk m c 4 ⟨n, h⟩),
     lossAt m c n h)
  | 0, h => by
    rw [outsAt0_A m c ⟨0, h⟩ rfl (by simp), out5_A, out6_A, out7_A]
    rfl
  | n + 1, h => by
    have hN : n + 1 < 32 := lt_of_lt_of_eq h N_0
    rw [outsAt0_B m c ⟨n + 1, h⟩ (by show ¬(n + 1) % 32 = 0; omega) (by show 1 ≤ n + 1; omega), out5_B, out6_B, out7_B]
    refine congrArg _ (congrArg _ ?_)
    show addf (outsAt0 m c n _).2.2 _ = _
    rw [outsAt0_eq n]
    rfl

end Cert.KernelIdeal.Value
-- ==== Proof.KerArrays.lean ====
/-
  What the kernel's program leaves in its three result buffers, as functions of its two arguments.
-/
module

public import proofs.«01_k».proof.Proof.KerTiles
public import Idealize.ShloMosaic.Lib.StableHlo.Run

@[expose] public section

set_option maxRecDepth 65536

noncomputable section

open Idealize.ShloMosaic Idealize.ShloMosaic.TcCoe Idealize.SL.Sem
open Idealize.ShloMosaic.Pipeline (Dat)

namespace Cert.KernelIdeal.Value

open Idealize.ShloMosaic.ValueIdx

open Cert.KernelIdeal Cert.KernelIdeal.Gen

variable {F : FTy → Type} [FloatOps F]

/-! ## The host's three parts of the codebooks -/

/-- The codebooks rounded to the short format. -/
def hiOf (cb : Vec F S4x1024x64 .f32) : Vec F S4x1024x64 .f32 := extf .f32 (truncf .bf16 cb bitsLt_bf16_f32) bitsLt_bf16_f32

/-- What the rounding leaves. -/
def remOf (cb : Vec F S4x1024x64 .f32) : Vec F S4x1024x64 .f32 := subf cb (hiOf cb)

/-- A part, its last two axes exchanged. -/
def flip (x : Vec F S4x1024x64 .f32) : Vec F S4x64x1024 .f32 := transpose S4x64x1024 [0, 2, 1] x transposes_S4x1024x64_S4x64x1024_0_2_1

variable (m : (ℓ : Loc nD τ sig) → Buf (Elt F) ℓ) (ρ : Dev nD → PrngReg) (c : Dev nD)

/-- The argument `x`. -/
abbrev argX : Vec F S32768x64 .f32 := m ((c : Thread nD τ).loc main_arg0)
/-- The argument `codebooks`. -/
abbrev argC : Vec F S4x1024x64 .f32 := m ((c : Thread nD τ).loc main_arg1)

theorem V_v8 : V m c main_call0_v8 = flip (hiOf (argC m c)) := by
  show StableHlo.after (List.flatten [hostOps0]) _ _ = _
  simp only [hostOps0, List.flatten_cons, List.flatten_nil, List.append_nil]
  after_results
  rfl
theorem V_v9 : V m c main_call0_v9 = flip (hiOf (remOf (argC m c))) := by
  show StableHlo.after (List.flatten [hostOps0]) _ _ = _
  simp only [hostOps0, List.flatten_cons, List.flatten_nil, List.append_nil]
  after_results
  rfl
theorem V_v10 : V m c main_call0_v10 = flip (hiOf (remOf (remOf (argC m c)))) := by
  show StableHlo.after (List.flatten [hostOps0]) _ _ = _
  simp only [hostOps0, List.flatten_cons, List.flatten_nil, List.append_nil]
  after_results
  rfl

/-! ## The windows' blocks -/

theorem lt32 (t : Fin cfg0.N) : t.val < 32 := lt_of_lt_of_eq t.isLt N_0

theorem idx0 (t : Fin cfg0.N) : ∀ a, win0_0.index t a * win0_0.size a = (![1024 * t.val, 0] : Fin 2 → Nat) a := by
  revert t; decide +kernel
theorem idx5 (t : Fin cfg0.N) : ∀ a, win0_5.index t a * win0_5.size a = (![1024 * t.val, 0] : Fin 2 → Nat) a := by
  revert t; decide +kernel
theorem idx6 (t : Fin cfg0.N) : ∀ a, win0_6.index t a * win0_6.size a = (![1024 * t.val, 0] : Fin 2 → Nat) a := by
  revert t; decide +kernel
theorem idx7 (t : Fin cfg0.N) : ∀ a, win0_7.index t a * win0_7.size a = 0 := by
  revert t; decide +kernel
theorem idx1 (t : Fin cfg0.N) : ∀ a, win0_1.index t a * win0_1.size a = 0 := by
  revert t; decide +kernel
theorem idx2 (t : Fin cfg0.N) : ∀ a, win0_2.index t a * win0_2.size a = 0 := by
  revert t; decide +kernel
theorem idx3 (t : Fin cfg0.N) : ∀ a, win0_3.index t a * win0_3.size a = 0 := by
  revert t; decide +kernel
theorem idx4 (t : Fin cfg0.N) : ∀ a, win0_4.index t a * win0_4.size a = 0 := by
  revert t; decide +kernel

/-- The rows of tile `t`. -/
def tileOf (x : Vec F S32768x64 .f32) (t : Fin 32) : Vec F S1024x64 .f32 :=
  fun j => x (ix2 ⟨1024 * t.val + (j 0).val, by have := t.isLt; have : (j 0).val < 1024 := (j 0).isLt; omega⟩ (j 1))

theorem iblk0 (t : Fin cfg0.N) : iblk m c 0 t = tileOf (argX m c) ⟨t.val, lt32 t⟩ := by
  funext j
  unfold iblk
  rw [View.read_apply]
  show V m c main_arg0 _ = _
  rw [V_main_arg0]
  refine congrArg (argX m c) (funext fun a => ?_)
  match a with
  | ⟨0, _⟩ => exact Fin.ext (by
      show win0_0.index t 0 * win0_0.size 0 + 1 * (j 0).val = 1024 * t.val + (j 0).val
      rw [idx0 t 0, one_mul]; rfl)
  | ⟨1, _⟩ => exact Fin.ext (by
      show win0_0.index t 1 * win0_0.size 1 + 1 * (j 1).val = (j 1).val
      rw [idx0 t 1, one_mul]; exact Nat.zero_add _)

theorem iblk1 (t : Fin cfg0.N) : iblk m c 1 t = argC m c := by
  funext j
  unfold iblk
  rw [View.read_apply]
  show V m c main_arg1 _ = _
  rw [V_main_arg1]
  refine congrArg (argC m c) (funext fun a => Fin.ext ?_)
  show win0_1.index t a * win0_1.size a + 1 * (j a).val = (j a).val
  rw [idx1 t a, one_mul, Nat.zero_add]

theorem iblk2 (t : Fin cfg0.N) : iblk m c 2 t = flip (hiOf (argC m c)) := by
  funext j
  unfold iblk
  rw [View.read_apply]
  show V m c main_call0_v8 _ = _
  rw [V_v8]
  refine congrArg (flip (hiOf (argC m c))) (funext fun a => Fin.ext ?_)
  show win0_2.index t a * win0_2.size a + 1 * (j a).val = (j a).val
  rw [idx2 t a, one_mul, Nat.zero_add]

theorem iblk3 (t : Fin cfg0.N) : iblk m c 3 t = flip (hiOf (remOf (argC m c))) := by
  funext j
  unfold iblk
  rw [View.read_apply]
  show V m c main_call0_v9 _ = _
  rw [V_v9]
  refine congrArg (flip (hiOf (remOf (argC m c)))) (funext fun a => Fin.ext ?_)
  show win0_3.index t a * win0_3.size a + 1 * (j a).val = (j a).val
  rw [idx3 t a, one_mul, Nat.zero_add]

theorem iblk4 (t : Fin cfg0.N) : iblk m c 4 t = flip (hiOf (remOf (remOf (argC m c)))) := by
  funext j
  unfold iblk
  rw [View.read_apply]
  show V m c main_call0_v10 _ = _
  rw [V_v10]
  refine congrArg (flip (hiOf (remOf (remOf (argC m c))))) (funext fun a => Fin.ext ?_)
  show win0_4.index t a * win0_4.size a + 1 * (j a).val = (j a).val
  rw [idx4 t a, one_mul, Nat.zero_add]

/-! ## The arrays -/

/-- The tile that row `n` lies in. -/
def tn (n : Fin 32768) : Fin 32 := ⟨n.val / 1024, by have := n.isLt; omega⟩

/-- The place of row `n` in its tile. -/
def tr (n : Fin 32768) : Fin 1024 := ⟨n.val % 1024, Nat.mod_lt _ (by norm_num)⟩

/-- A tile's result for window 5, by the arguments. -/
def xqOf (x : Vec F S32768x64 .f32) (cb : Vec F S4x1024x64 .f32) (t : Fin 32) : Vec F S1024x64 .f32 :=
  xqTile (tileOf x t) cb (flip (hiOf cb)) (flip (hiOf (remOf cb))) (flip (hiOf (remOf (remOf cb))))

/-- A tile's result for window 6, by the arguments. -/
def idxOf (x : Vec F S32768x64 .f32) (cb : Vec F S4x1024x64 .f32) (t : Fin 32) : Vec F S1024x4 .i32 :=
  idxTile (tileOf x t) cb (flip (hiOf cb)) (flip (hiOf (remOf cb))) (flip (hiOf (remOf (remOf cb))))

/-- A tile's squared error, by the arguments. -/
def lossOf (x : Vec F S32768x64 .f32) (cb : Vec F S4x1024x64 .f32) (t : Fin 32) : F .f32 :=
  tileErr (tileOf x t) cb (flip (hiOf cb)) (flip (hiOf (remOf cb))) (flip (hiOf (remOf (remOf cb)))) 4

/-- The squared errors of tiles `0` to `n`, added up in order. -/
def lossTo (x : Vec F S32768x64 .f32) (cb : Vec F S4x1024x64 .f32) : ℕ → F .f32
  | 0 => lossOf x cb (Fin.ofNat 32 0)
  | n + 1 => FloatOps.addf (lossTo x cb n) (lossOf x cb (Fin.ofNat 32 (n + 1)))

/-- Result 1, the quantised rows. -/
def xqArr (x : Vec F S32768x64 .f32) (cb : Vec F S4x1024x64 .f32) : Vec F S32768x64 .f32 :=
  fun y => xqOf x cb (tn (y 0)) (ix2 (tr (y 0)) (y 1))

/-- Result 3, the code numbers. -/
def idxArr (x : Vec F S32768x64 .f32) (cb : Vec F S4x1024x64 .f32) : Vec F S32768x4 .i32 :=
  fun y => idxOf x cb (tn (y 0)) (ix2 (tr (y 0)) (y 1))

/-- Result 2, the mean loss. -/
def lossVal (x : Vec F S32768x64 .f32) (cb : Vec F S4x1024x64 .f32) : Vec F S_ .f32 :=
  Host.divf (mulf (constant S_ .f32 0x3FA00000#32) (broadcast S_ (lossTo x cb 31))) (constant S_ .f32 0x4B000000#32)

theorem tn_eq (t : Fin 32) (k : Fin 1024) (n : Fin 32768) (h : n.val = 1024 * t.val + k.val) : tn n = t ∧ tr n = k := by
  have := t.isLt; have := k.isLt
  exact ⟨Fin.ext (by show n.val / 1024 = t.val; omega), Fin.ext (by show n.val % 1024 = k.val; omega)⟩

theorem errOf_eq (t : Fin cfg0.N) : errOf m c t = lossOf (argX m c) (argC m c) ⟨t.val, lt32 t⟩ := by
  unfold errOf lossOf
  rw [iblk0, iblk1, iblk2, iblk3, iblk4]

theorem lossAt_eq : ∀ (n : ℕ) (h : n < cfg0.N), lossAt m c n h = broadcast S1x1 (lossTo (argX m c) (argC m c) n)
  | 0, h => by
    unfold lossAt lossTo
    rw [errOf_eq]; rfl
  | n + 1, h => by
    have hN : n + 1 < 32 := lt_of_lt_of_eq h N_0
    unfold lossAt lossTo
    rw [errOf_eq, lossAt_eq n]
    have e : (⟨n + 1, hN⟩ : Fin 32) = Fin.ofNat 32 (n + 1) := Fin.ext (Nat.mod_eq_of_lt hN).symm
    rw [← e]
    rfl

theorem flushed5 (t : Fin cfg0.N) :
    (dats m 0 c).flushed (5 : Fin 8) t = ((cfg0.win (5 : Fin 8)).blk t).view.read (Elt F) (xqArr (argX m c) (argC m c)) := by
  show (cfg0.win (5 : Fin 8)).cut (grid0.coords t) ((dats m 0 c).after (5 : Fin 8) t) = _
  rw [after0_5, outsAt0_eq]
  funext j
  rw [View.read_apply]
  show xqTile (iblk m c 0 t) (iblk m c 1 t) (iblk m c 2 t) (iblk m c 3 t) (iblk m c 4 t) j = xqArr (argX m c) (argC m c) _
  rw [iblk0, iblk1, iblk2, iblk3, iblk4]
  generalize hy : ((cfg0.win (5 : Fin 8)).blk t).view.emb j = y
  have h0 : (y 0).val = 1024 * t.val + (j 0).val := by
    rw [← hy]
    show win0_5.index t 0 * win0_5.size 0 + 1 * (j 0).val = 1024 * t.val + (j 0).val
    rw [idx5 t 0, one_mul]; rfl
  have h1 : y 1 = j 1 := by
    rw [← hy]
    refine Fin.ext ?_
    show win0_5.index t 1 * win0_5.size 1 + 1 * (j 1).val = (j 1).val
    rw [idx5 t 1, one_mul]; exact Nat.zero_add _
  obtain ⟨e1, e2⟩ := tn_eq ⟨t.val, lt32 t⟩ (j 0) (y 0) h0
  show _ = xqOf _ _ (tn (y 0)) (ix2 (tr (y 0)) (y 1))
  rw [e1, e2, h1]
  exact congrArg (xqOf (argX m c) (argC m c) ⟨t.val, lt32 t⟩) (eq_ix2 (n0 := 1024) (n1 := 64) j)

theorem flushed6 (t : Fin cfg0.N) :
    (dats m 0 c).flushed (6 : Fin 8) t = ((cfg0.win (6 : Fin 8)).blk t).view.read (Elt F) (idxArr (argX m c) (argC m c)) := by
  show (cfg0.win (6 : Fin 8)).cut (grid0.coords t) ((dats m 0 c).after (6 : Fin 8) t) = _
  rw [after0_6, outsAt0_eq]
  funext j
  rw [View.read_apply]
  generalize hT : idxTile (iblk m c 0 t) (iblk m c 1 t) (iblk m c 2 t) (iblk m c 3 t) (iblk m c 4 t) = T
  generalize hA : idxArr (argX m c) (argC m c) = A
  show T j = A (((cfg0.win (6 : Fin 8)).blk t).view.emb j)
  rw [← hT, ← hA]
  rw [iblk0, iblk1, iblk2, iblk3, iblk4]
  generalize hy : ((cfg0.win (6 : Fin 8)).blk t).view.emb j = y
  have h0 : (y 0).val = 1024 * t.val + (j 0).val := by
    rw [← hy]
    show win0_6.index t 0 * win0_6.size 0 + 1 * (j 0).val = 1024 * t.val + (j 0).val
    rw [idx6 t 0, one_mul]; rfl
  have h1 : y 1 = j 1 := by
    rw [← hy]
    refine Fin.ext ?_
    show win0_6.index t 1 * win0_6.size 1 + 1 * (j 1).val = (j 1).val
    rw [idx6 t 1, one_mul]; exact Nat.zero_add _
  obtain ⟨e1, e2⟩ := tn_eq ⟨t.val, lt32 t⟩ (j 0) (y 0) h0
  show _ = idxOf _ _ (tn (y 0)) (ix2 (tr (y 0)) (y 1))
  rw [e1, e2, h1]
  exact congrArg (idxOf (argX m c) (argC m c) ⟨t.val, lt32 t⟩) (eq_ix2 (n0 := 1024) (n1 := 4) j)

theorem flushed7 (t : Fin cfg0.N) (ht : t.val % 32 = 31) :
    (dats m 0 c).flushed (7 : Fin 8) t = ((cfg0.win (7 : Fin 8)).blk t).view.read (Elt F) (broadcast S1x1 (lossTo (argX m c) (argC m c) 31)) := by
  have e : t.val = 31 := by have := lt32 t; omega
  show (cfg0.win (7 : Fin 8)).cut (grid0.coords t) ((dats m 0 c).after (7 : Fin 8) t) = _
  rw [after0_7, outsAt0_eq]
  funext j
  rw [View.read_apply]
  show lossAt m c t.val t.isLt j = lossTo (argX m c) (argC m c) 31
  rw [lossAt_eq, e]; rfl

theorem cover5 (i : S32768x64.Idx) :
    ∃ t : Fin cfg0.N, (cfg0.win (5 : Fin 8)).flush t = true ∧ i ∈ ((cfg0.win (5 : Fin 8)).blk t).view.set := by
  have h0 : (i 0).val < 32768 := (i 0).isLt
  have h1 : (i 1).val < 64 := (i 1).isLt
  let t : Fin cfg0.N := ⟨(i 0).val / 1024, lt_of_lt_of_eq (by omega : (i 0).val / 1024 < 32) N_0.symm⟩
  refine ⟨t, flush0_5 t, ?_⟩
  show i ∈ ((View.whole main_v0_0).slice (win0_5.rect t)).set
  rw [View.set_slice_whole, Rect.mem_set_unit]
  intro a
  match a with
  | ⟨0, _⟩ =>
    show win0_5.index t 0 * win0_5.size 0 ≤ (i 0).val ∧ (i 0).val < win0_5.index t 0 * win0_5.size 0 + 1024
    rw [idx5 t 0]
    show 1024 * ((i 0).val / 1024) ≤ (i 0).val ∧ (i 0).val < 1024 * ((i 0).val / 1024) + 1024
    omega
  | ⟨1, _⟩ =>
    show win0_5.index t 1 * win0_5.size 1 ≤ (i 1).val ∧ (i 1).val < win0_5.index t 1 * win0_5.size 1 + 64
    rw [idx5 t 1]
    show 0 ≤ (i 1).val ∧ (i 1).val < 0 + 64
    omega

theorem cover6 (i : S32768x4.Idx) :
    ∃ t : Fin cfg0.N, (cfg0.win (6 : Fin 8)).flush t = true ∧ i ∈ ((cfg0.win (6 : Fin 8)).blk t).view.set := by
  have h0 : (i 0).val < 32768 := (i 0).isLt
  have h1 : (i 1).val < 4 := (i 1).isLt
  let t : Fin cfg0.N := ⟨(i 0).val / 1024, lt_of_lt_of_eq (by omega : (i 0).val / 1024 < 32) N_0.symm⟩
  refine ⟨t, flush0_6 t, ?_⟩
  show i ∈ ((View.whole main_v0_2).slice (win0_6.rect t)).set
  rw [View.set_slice_whole, Rect.mem_set_unit]
  intro a
  match a with
  | ⟨0, _⟩ =>
    show win0_6.index t 0 * win0_6.size 0 ≤ (i 0).val ∧ (i 0).val < win0_6.index t 0 * win0_6.size 0 + 1024
    rw [idx6 t 0]
    show 1024 * ((i 0).val / 1024) ≤ (i 0).val ∧ (i 0).val < 1024 * ((i 0).val / 1024) + 1024
    omega
  | ⟨1, _⟩ =>
    show win0_6.index t 1 * win0_6.size 1 ≤ (i 1).val ∧ (i 1).val < win0_6.index t 1 * win0_6.size 1 + 4
    rw [idx6 t 1]
    show 0 ≤ (i 1).val ∧ (i 1).val < 0 + 4
    omega

theorem cover7 (i : S1x1.Idx) :
    ∃ t : Fin cfg0.N, (cfg0.win (7 : Fin 8)).flush t = true ∧ i ∈ ((cfg0.win (7 : Fin 8)).blk t).view.set := by
  let t : Fin cfg0.N := ⟨31, lt_of_lt_of_eq (by omega : 31 < 32) N_0.symm⟩
  refine ⟨t, (flush0_7 t).mpr rfl, ?_⟩
  show i ∈ ((View.whole main_call0_v11_2).slice (win0_7.rect t)).set
  rw [View.set_slice_whole, Rect.mem_set_unit]
  intro a
  show win0_7.index t a * win0_7.size a ≤ (i a).val ∧ (i a).val < win0_7.index t a * win0_7.size a + S1x1.size a
  rw [idx7 t a, Nat.zero_add]
  exact ⟨Nat.zero_le _, (i a).isLt⟩

theorem final5 : (dats m 0 c).arrAt (5 : Fin 8) cfg0.N = xqArr (argX m c) (argC m c) :=
  (dats m 0 c).arrAt_eq_of_cover (5 : Fin 8) (xqArr (argX m c) (argC m c)) (fun t _ => flushed5 m c t) cover5

theorem final6 : (dats m 0 c).arrAt (6 : Fin 8) cfg0.N = idxArr (argX m c) (argC m c) :=
  (dats m 0 c).arrAt_eq_of_cover (6 : Fin 8) (idxArr (argX m c) (argC m c)) (fun t _ => flushed6 m c t) cover6

theorem final7 : (dats m 0 c).arrAt (7 : Fin 8) cfg0.N = (broadcast S1x1 (lossTo (argX m c) (argC m c) 31) : Vec F S1x1 .f32) :=
  (dats m 0 c).arrAt_eq_of_cover (7 : Fin 8) (broadcast S1x1 (lossTo (argX m c) (argC m c) 31) : Vec F S1x1 .f32)
    (fun t ht => flushed7 m c t ((flush0_7 t).mp ht)) cover7

/-- The mean loss after the host's last lines. -/
theorem tail_v0_1 : Pipeline.afterTail₀ cfgs (dats m) 0 (V0 m) [hostOps1] c main_v0_1 = lossVal (argX m c) (argC m c) := by
  show StableHlo.after (List.flatten [hostOps1]) _ _ = _
  simp only [hostOps1, List.flatten_cons, List.flatten_nil, List.append_nil]
  after_results
  have e := Pipeline.withArrays_arr (cfgs 0).spec launch0.win.arr_inj c (V0 m c) (fun w => (dats m 0 c).arrAt w (cfgs 0).N) (7 : Fin 8)
  have e' := e.trans (final7 m c)
  exact congrArg (fun A : Vec F S1x1 .f32 => Host.divf (mulf (constant S_ .f32 0x3FA00000#32) (shapeCast S_ A shapeCasts_S1x1_S_))
    (constant S_ .f32 0x4B000000#32)) e'

/-- The kernel's run: its three results by its arguments, the arguments unchanged. -/
theorem run : θ_run defs (onTc (τ := τ) (main (F := F))) ⟨m, fun _ => 0, ρ⟩ fun r => ∀ c : Dev nD,
      (r.2.mem ((c : Thread nD τ).loc main_v0_0) = xqArr (argX m c) (argC m c)
      ∧ r.2.mem ((c : Thread nD τ).loc main_v0_1) = lossVal (argX m c) (argC m c)
      ∧ r.2.mem ((c : Thread nD τ).loc main_v0_2) = idxArr (argX m c) (argC m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨⟨((h.1 c).1 5).trans (final5 m c),
      ((h.1 c).2 main_v0_1 (by decide)).trans (tail_v0_1 m c), ((h.1 c).1 6).trans (final6 m c)⟩, h.2 c⟩)
    (θ_run_and (run_main m ρ) (unchanged m ρ))

end Cert.KernelIdeal.Value
-- ==== Proof.Spec.lean ====
/-
  Residual vector quantisation of one row, over the extended reals.

  A level has a book of 1024 codes of 64 entries. It picks the code of least squared distance from the row — the first such
  code — and leaves the row less that code to the next level.
-/
module

public import Idealize.ShloMosaic.PureOps.Ideal

@[expose] public section

noncomputable section

open Finset

namespace Cert.Spec

/-- A row. -/
abbrev Row := Fin 64 → EReal

/-- A level's codes. -/
abbrev Book := Fin 1024 → Row

/-- A row's squared norm. -/
def sq (r : Row) : EReal := ∑ j, r j * r j

/-- The squared distance of a row from code `k`, multiplied out. -/
def rowDist (r : Row) (b : Book) (k : Fin 1024) : EReal := (sq r + sq (b k)) - 2 * ∑ j, r j * b k j

theorem least_nonempty (d : Fin 1024 → EReal) : (univ.filter fun k => ∀ k', d k ≤ d k').Nonempty := by
  obtain ⟨k, hk⟩ := Finite.exists_min d
  exact ⟨k, by simpa using hk⟩

/-- The first place at which `d` is least. -/
def leastAt (d : Fin 1024 → EReal) : Fin 1024 := (univ.filter fun k => ∀ k', d k ≤ d k').min' (least_nonempty d)

theorem leastAt_le (d : Fin 1024 → EReal) (k : Fin 1024) : d (leastAt d) ≤ d k := by
  have h := Finset.min'_mem _ (least_nonempty d)
  exact (Finset.mem_filter.mp h).2 k

theorem leastAt_first (d : Fin 1024 → EReal) (k : Fin 1024) (h : ∀ k', d k ≤ d k') : leastAt d ≤ k :=
  Finset.min'_le _ _ (by simpa using h)

/-- A place is the first least one if `d` is least there and at no place before it. -/
theorem eq_leastAt (d : Fin 1024 → EReal) (k : Fin 1024) (h : ∀ k', d k ≤ d k') (h' : ∀ k', d k' ≤ d k → k ≤ k') : k = leastAt d :=
  le_antisymm (h' _ (leastAt_le d k)) (leastAt_first d k h)

/-- The number of the code a level picks. -/
def rowIdx (r : Row) (b : Book) : Fin 1024 := leastAt (rowDist r b)

/-- The code a level picks. -/
def rowCode (r : Row) (b : Book) : Row := b (rowIdx r b)

/-- What a level leaves of a row. -/
def rowNext (r : Row) (b : Book) : Row := fun j => r j - rowCode r b j

/-- A level's squared error at a row. -/
def rowErr (r : Row) (b : Book) : EReal := ∑ j, (rowCode r b j - r j) * (rowCode r b j - r j)

/-- What the first `n` levels leave of a row. -/
def rowRest (x : Row) (bs : Fin 4 → Book) : ℕ → Row
  | 0 => x
  | n + 1 => rowNext (rowRest x bs n) (bs (Fin.ofNat 4 n))

/-- The squared error of level `n` at a row. -/
def errAt (x : Row) (bs : Fin 4 → Book) (n : ℕ) : EReal := rowErr (rowRest x bs n) (bs (Fin.ofNat 4 n))

/-- The code number of level `n` at a row. -/
def idxAt (x : Row) (bs : Fin 4 → Book) (n : ℕ) : Fin 1024 := rowIdx (rowRest x bs n) (bs (Fin.ofNat 4 n))

/-- A sum over pairs of pairs that number the places of another type. -/
theorem sum_triple {α β γ δ : Type} [Fintype α] [Fintype β] [Fintype γ] [Fintype δ] (g : α → β → γ → δ) (v : δ → α × β × γ)
    (h1 : ∀ a b c, v (g a b c) = (a, b, c)) (h2 : ∀ d, g (v d).1 (v d).2.1 (v d).2.2 = d) (f : δ → EReal) :
    (∑ a : α, ∑ b : β, ∑ c : γ, f (g a b c)) = ∑ d : δ, f d := by
  rw [← Fintype.sum_equiv ⟨fun p : α × β × γ => g p.1 p.2.1 p.2.2, v, fun p => h1 _ _ _, h2⟩ (fun p => f (g p.1 p.2.1 p.2.2)) f fun _ => rfl,
    Fintype.sum_prod_type]
  exact Finset.sum_congr rfl fun a _ => (Fintype.sum_prod_type (fun p : β × γ => f (g a p.1 p.2))).symm

end Cert.Spec
-- ==== Proof.Least.lean ====
/-
  Two ways of finding the first least place of a row: the least number among the places that attain the minimum.
-/
module

public import proofs.«01_k».proof.Proof.Spec
public import Idealize.ShloMosaic.Lib.Pointwise

@[expose] public section

noncomputable section

open Idealize.ShloMosaic Finset

namespace Cert.Spec

/-- A place attains the minimum, folded from the top element, exactly if it is least. -/
theorem eq_fold_min_iff (d : Fin 1024 → EReal) (k : Fin 1024) : d k = Finset.fold min ⊤ d univ ↔ ∀ k', d k ≤ d k' := by
  constructor
  · intro h k'
    rw [h]
    exact (Finset.le_fold_min _).mp le_rfl |>.2 k' (mem_univ _)
  · intro h
    exact le_antisymm ((Finset.le_fold_min _).mpr ⟨le_top, fun k' _ => h k'⟩) (((Finset.le_fold_min _).mp le_rfl).2 k (mem_univ _))

theorem toInt_minsi (x y : BitVec 32) : (IntOp.minsi x y).toInt = min x.toInt y.toInt := by
  unfold IntOp.minsi
  split <;> rename_i h <;> rw [BitVec.slt_iff_toInt_lt] at h <;> omega

theorem toInt_small (k : Fin 1024) : (BitVec.ofNat 32 k.val).toInt = k.val := by
  have := k.isLt
  rw [BitVec.toInt_eq_toNat_of_lt (by rw [BitVec.toNat_ofNat, Nat.mod_eq_of_lt (by omega)]; omega), BitVec.toNat_ofNat,
    Nat.mod_eq_of_lt (by omega)]

theorem toInt_fold_minsi (b : BitVec 32) (f : Fin 1024 → BitVec 32) (s : Finset (Fin 1024)) :
    (Finset.fold IntOp.minsi b f s).toInt = Finset.fold min b.toInt (fun k => (f k).toInt) s := by
  rw [← Finset.fold_hom (op := IntOp.minsi) (op' := min) (m := BitVec.toInt) toInt_minsi]

/-- The least number of a least place, 1024 standing for the places that are not least. -/
theorem fold_minsi_least (d : Fin 1024 → EReal) (f : Fin 1024 → BitVec 32)
    (h1 : ∀ k, (∀ k', d k ≤ d k') → f k = BitVec.ofNat 32 k.val) (h2 : ∀ k, (¬∀ k', d k ≤ d k') → f k = 1024#32) :
    Finset.fold IntOp.minsi 2147483647#32 f univ = BitVec.ofNat 32 (leastAt d).val := by
  apply BitVec.eq_of_toInt_eq
  rw [toInt_fold_minsi, toInt_small]
  have hl := (leastAt d).isLt
  apply le_antisymm
  · have := ((Finset.le_fold_min (b := (2147483647#32 : BitVec 32).toInt) (f := fun k => (f k).toInt) (s := univ) _).mp le_rfl).2 (leastAt d) (mem_univ _)
    rwa [h1 _ (leastAt_le d), toInt_small] at this
  · refine (Finset.le_fold_min _).mpr ⟨?_, fun k _ => ?_⟩
    · have : (2147483647#32 : BitVec 32).toInt = 2147483647 := by decide
      rw [this]; omega
    · by_cases hk : ∀ k', d k ≤ d k'
      · rw [h1 k hk, toInt_small]
        exact_mod_cast leastAt_first d k hk
      · rw [h2 k hk]
        have : (1024#32 : BitVec 32).toInt = 1024 := by decide
        rw [this]; omega

end Cert.Spec
-- ==== Proof.KerLevel.lean ====
/-
  The kernel's level functions at an entry, over the extended reals.
-/
module

public import proofs.«01_k».proof.Proof.KerArrays
public import proofs.«01_k».proof.Proof.Least
public import Idealize.ShloMosaic.Lib.Pointwise
public import Idealize.ShloMosaic.Lib.MatmulPlain

@[expose] public section

set_option maxRecDepth 16384

noncomputable section

open Idealize.ShloMosaic Idealize.ShloMosaic.TcCoe

namespace Cert.KernelIdeal.Value

open Cert.KernelIdeal Cert.KernelIdeal.Gen

/-- Row `i` of a half tile. -/
def rowAt (r : FVec Ideal S512x64 .f32) (i : Fin 512) : Spec.Row := fun j => r (ix2 i j)

/-- The codes of a codebook. -/
def bookAt (cb : Vec Ideal S1x1024x64 .f32) : Spec.Book := fun k j => cb (ix3 0 k j)

theorem two_eq : Ideal.ofBits .f32 1073741824#32 = 2 := by
  simp [Ideal.ofBits, Ideal.ieee, -EReal.coe_mul]; norm_num; rfl

theorem top_eq : Ideal.ofBits .f32 2139095040#32 = ⊤ := by simp [Ideal.ofBits, Ideal.ieee]

theorem norms_apply (cb : Vec Ideal S1x1024x64 .f32) (k : Fin 1024) : norms cb (ix2 0 k) = Spec.sq (bookAt cb k) := by
  unfold norms k0_pay8 Spec.sq bookAt
  pointwise []

/-- The distances, the two lower parts of the codebook being zero. -/
theorem dist_apply (r : FVec Ideal S512x64 .f32) (cb : Vec Ideal S1x1024x64 .f32) (h m l : Vec Ideal S1x64x1024 .f32)
    (hh : ∀ j k, h (ix3 0 j k) = cb (ix3 0 k j)) (hm : ∀ j k, m (ix3 0 j k) = 0) (hl : ∀ j k, l (ix3 0 j k) = 0) (i : Fin 512) (k : Fin 1024) :
    dist r (norms cb) h m l (ix2 i k) = Spec.rowDist (rowAt r i) (bookAt cb) k := by
  have hn := norms_apply cb k
  unfold dist Spec.rowDist
  rw [← hn]
  unfold rowAt bookAt Spec.sq
  pointwise []
  simp only [hh, hm, hl, mul_zero, Finset.sum_const_zero, add_zero, two_eq]

theorem marks_apply (d : FVec Ideal S512x1024 .f32) (i : Fin 512) (k : Fin 1024) :
    marks d (ix2 i k) = BitVec.ofBool (decide (∀ k', d (ix2 i k) ≤ d (ix2 i k'))) := by
  unfold marks
  pointwise []
  rw [top_eq, decide_eq_decide.mpr (Spec.eq_fold_min_iff (fun k => d (ix2 i k)) k)]

/-- A row's code number is the first least place of its distances. -/
theorem code_apply (d : FVec Ideal S512x1024 .f32) (i : Fin 512) :
    code (marks d) (ix2 i 0) = BitVec.ofNat 32 (Spec.leastAt fun k => d (ix2 i k)).val := by
  have h := fun k => marks_apply d i k
  unfold code k0_pay10 cand lane
  generalize marks d = mk at h ⊢
  pointwise []
  refine Spec.fold_minsi_least _ _ (fun k hk => ?_) (fun k hk => ?_)
  · rw [h k, decide_eq_true hk]; rfl
  · rw [h k, decide_eq_false hk]; rfl

/-- A row's picked code is the one of that number. -/
theorem pick_apply (d : FVec Ideal S512x1024 .f32) (cb : Vec Ideal S1x1024x64 .f32) (i : Fin 512) (j : Fin 64) :
    pick (marks d) cb (ix2 i j) = bookAt cb (Spec.leastAt fun k => d (ix2 i k)) j := by
  have h := code_apply d i
  unfold code at h
  unfold pick k0_pay11 bookAt
  generalize k0_pay10 (cand (marks d)) = v at h ⊢
  generalize (Spec.leastAt fun k => d (ix2 i k)) = q at h ⊢
  unfold lane
  pointwise []
  rw [h, Finset.sum_eq_single q]
  · have one : (FloatOps.sitofp .f32 (1#32) : Idealize.ShloMosaic.Ideal .f32) = 1 := by
      show ((((1#32 : BitVec 32).toInt : ℝ)) : EReal) = 1
      norm_num
    simp [IntOp.cmpi, one]
  · intro k _ hk
    have : BitVec.ofNat 32 k.val ≠ BitVec.ofNat 32 q.val := fun e => hk (Fin.ext (by
      have := congrArg BitVec.toInt e
      rw [Spec.toInt_small, Spec.toInt_small] at this
      exact_mod_cast this))
    have zero : (FloatOps.sitofp .f32 (0#32) : Idealize.ShloMosaic.Ideal .f32) = 0 := by
      show ((((0#32 : BitVec 32).toInt : ℝ)) : EReal) = 0
      norm_num
    simp [IntOp.cmpi, beq_eq_false_iff_ne.mpr this, zero]
  · intro hq; exact absurd (Finset.mem_univ q) hq

theorem total_apply (w : FVec Ideal S512x64 .f32) : total w = ∑ i, ∑ j, w (ix2 i j) := by
  unfold total
  pointwise []

/-! ## The level functions, a row at a time -/

/-- The four codebooks. -/
def books (cb : Vec Ideal S4x1024x64 .f32) : Fin 4 → Spec.Book := fun n k j => cb (ix3 n k j)

/-- Every entry of the codebooks is a real number. -/
def Fin4 (cb : Vec Ideal S4x1024x64 .f32) : Prop := ∀ i, ∃ a : ℝ, cb i = (a : EReal)

theorem remOf_eq (cb : Vec Ideal S4x1024x64 .f32) (h : Fin4 cb) (i) : remOf cb i = 0 := by
  obtain ⟨a, ha⟩ := h i
  show cb i - cb i = 0
  rw [ha, ← EReal.coe_sub, sub_self]; rfl

theorem remOf_remOf_eq (cb : Vec Ideal S4x1024x64 .f32) (h : Fin4 cb) (i) : remOf (remOf cb) i = 0 :=
  remOf_eq (remOf cb) (fun i => ⟨0, remOf_eq cb h i⟩) i

/-- The parts of the codebooks that the kernel's host lines make. -/
abbrev p2 (cb : Vec Ideal S4x1024x64 .f32) := flip (hiOf cb)
abbrev p3 (cb : Vec Ideal S4x1024x64 .f32) := flip (hiOf (remOf cb))
abbrev p4 (cb : Vec Ideal S4x1024x64 .f32) := flip (hiOf (remOf (remOf cb)))

theorem flip_apply (x : Vec Ideal S4x1024x64 .f32) (n : Fin 4) (j : Fin 64) (k : Fin 1024) : flip x (ix3 n j k) = x (ix3 n k j) := by
  unfold flip
  pointwise []

section rows

variable (cb : Vec Ideal S4x1024x64 .f32) (hcb : Fin4 cb) (r : FVec Ideal S512x64 .f32) (i : Fin 512)
include hcb

theorem lev_apply (n : Fin 4) (r : FVec Ideal S512x64 .f32) :
    ∃ d : FVec Ideal S512x1024 .f32, lev cb (p2 cb) (p3 cb) (p4 cb) n r = marks d ∧ (fun k => d (ix2 i k)) = Spec.rowDist (rowAt r i) (books cb n) := by
  refine ⟨_, rfl, funext fun k => ?_⟩
  refine (dist_apply r (codesAt cb n) _ _ _ (fun j k => ?_) (fun j k => ?_) (fun j k => ?_) i k).trans rfl
  · exact flip_apply (hiOf cb) n j k
  · exact (flip_apply (hiOf (remOf cb)) n j k).trans (remOf_eq cb hcb _)
  · exact (flip_apply (hiOf (remOf (remOf cb))) n j k).trans (remOf_remOf_eq cb hcb _)

theorem pick_lev (n : Fin 4) (r : FVec Ideal S512x64 .f32) (j : Fin 64) :
    pick (lev cb (p2 cb) (p3 cb) (p4 cb) n r) (codesAt cb n) (ix2 i j) = Spec.rowCode (rowAt r i) (books cb n) j := by
  obtain ⟨d, e, hd⟩ := lev_apply cb hcb i n r
  rw [e, pick_apply, hd]; rfl

theorem code_lev (n : Fin 4) (r : FVec Ideal S512x64 .f32) :
    code (lev cb (p2 cb) (p3 cb) (p4 cb) n r) (ix2 i 0) = BitVec.ofNat 32 (Spec.rowIdx (rowAt r i) (books cb n)).val := by
  obtain ⟨d, e, hd⟩ := lev_apply cb hcb i n r
  rw [e, code_apply, hd]; rfl

/-- What `n` levels leave of a half tile, row by row. -/
theorem rest_apply : ∀ n : ℕ, rowAt (rest cb (p2 cb) (p3 cb) (p4 cb) r n) i = Spec.rowRest (rowAt r i) (books cb) n
  | 0 => rfl
  | n + 1 => by
    funext j
    show rest cb (p2 cb) (p3 cb) (p4 cb) r n (ix2 i j) - pick (lev cb (p2 cb) (p3 cb) (p4 cb) (Fin.ofNat 4 n) _) _ (ix2 i j) = _
    rw [pick_lev cb hcb, rest_apply n]
    show rowAt (rest cb (p2 cb) (p3 cb) (p4 cb) r n) i j - _ = _
    rw [rest_apply n]; rfl

theorem codeAt_apply (n : ℕ) : codeAt cb (p2 cb) (p3 cb) (p4 cb) r n (ix2 i 0) = BitVec.ofNat 32 (Spec.idxAt (rowAt r i) (books cb) n).val := by
  unfold codeAt
  rw [code_lev cb hcb, rest_apply cb hcb]; rfl

omit i in
theorem errAt_apply (n : ℕ) : errAt cb (p2 cb) (p3 cb) (p4 cb) r n = ∑ i, Spec.errAt (rowAt r i) (books cb) n := by
  unfold errAt sqErr Spec.errAt Spec.rowErr
  rw [total_apply]
  refine Finset.sum_congr rfl fun i _ => Finset.sum_congr rfl fun j _ => ?_
  show (pick (F := Ideal) _ _ (ix2 i j) - rowAt (rest cb (p2 cb) (p3 cb) (p4 cb) r n) i j) * (pick (F := Ideal) _ _ (ix2 i j) - rowAt (rest cb (p2 cb) (p3 cb) (p4 cb) r n) i j) = _
  rw [pick_lev cb hcb, rest_apply cb hcb]

end rows

/-! ## The results -/

/-- Row `i` of the argument `x`. -/
def xRow (x : Vec Ideal S32768x64 .f32) (i : Fin 32768) : Spec.Row := fun j => x (ix2 i j)

/-- Row `i` of half `b` of tile `t`. -/
def rowNo (t : Fin 32) (b : Fin 2) (i : Fin 512) : Fin 32768 :=
  ⟨1024 * t.val + (512 * b.val + i.val), by have := t.isLt; have := b.isLt; have := i.isLt; omega⟩

theorem row_half (x : Vec Ideal S32768x64 .f32) (t : Fin 32) (b : Fin 2) (i : Fin 512) :
    rowAt (half (tileOf x t) b) i = xRow x (rowNo t b i) := rfl

theorem rowNo_tn (n : Fin 32768) : rowNo (tn n) (hb (tr n)) (hr (tr n)) = n :=
  Fin.ext (by
    have := n.isLt
    show 1024 * (n.val / 1024) + (512 * (n.val % 1024 / 512) + n.val % 1024 % 512) = n.val
    omega)

variable (x : Vec Ideal S32768x64 .f32) (cb : Vec Ideal S4x1024x64 .f32) (hcb : Fin4 cb)
include hcb

/-- Result 1 of the kernel. -/
theorem xqArr_apply (i : Fin 32768) (j : Fin 64) :
    xqArr x cb (ix2 i j) = x (ix2 i j) - Spec.rowRest (xRow x i) (books cb) 4 j := by
  show half (tileOf x (tn i)) (hb (tr i)) (ix2 (hr (tr i)) j) - rowAt (rest cb (p2 cb) (p3 cb) (p4 cb) (half (tileOf x (tn i)) (hb (tr i))) 4) (hr (tr i)) j = _
  rw [rest_apply cb hcb, row_half, rowNo_tn]
  show rowAt (half (tileOf x (tn i)) (hb (tr i))) (hr (tr i)) j - _ = _
  rw [row_half, rowNo_tn]; rfl

/-- Result 3 of the kernel. -/
theorem idxArr_apply (i : Fin 32768) (l : Fin 4) :
    idxArr x cb (ix2 i l) = BitVec.ofNat 32 (Spec.idxAt (xRow x i) (books cb) l.val).val := by
  show codeAt cb (p2 cb) (p3 cb) (p4 cb) (half (tileOf x (tn i)) (hb (tr i))) l.val (ix2 (hr (tr i)) 0) = _
  rw [codeAt_apply cb hcb, row_half, rowNo_tn]

/-- A tile's squared error. -/
theorem lossOf_apply (t : Fin 32) :
    lossOf x cb t = ∑ n ∈ Finset.range 4, ∑ b : Fin 2, ∑ i, Spec.errAt (xRow x (rowNo t b i)) (books cb) n := by
  have h : ∀ n, tileErr (tileOf x t) cb (p2 cb) (p3 cb) (p4 cb) n = ∑ n ∈ Finset.range n, ∑ b : Fin 2, ∑ i, Spec.errAt (xRow x (rowNo t b i)) (books cb) n := by
    intro n
    induction n with
    | zero => show Ideal.ofBits .f32 0x00000000#32 = _; simp [Ideal.ofBits, Ideal.ieee]
    | succ n ih =>
      show tileErr (tileOf x t) cb (p2 cb) (p3 cb) (p4 cb) n + (errAt cb (p2 cb) (p3 cb) (p4 cb) _ n + errAt cb (p2 cb) (p3 cb) (p4 cb) _ n) = _
      rw [ih, Finset.sum_range_succ, errAt_apply cb hcb, errAt_apply cb hcb, Fin.sum_univ_two]
      rfl
  exact h 4

/-- The total squared error. -/
def totalErr (x : Vec Ideal S32768x64 .f32) (bs : Fin 4 → Spec.Book) : EReal := ∑ n ∈ Finset.range 4, ∑ i, Spec.errAt (xRow x i) bs n

omit hcb in
/-- A sum over the rows, tile by tile and half by half. -/
theorem sum_rows (f : Fin 32768 → EReal) : ∑ t : Fin 32, ∑ b : Fin 2, ∑ i : Fin 512, f (rowNo t b i) = ∑ i, f i :=
  Spec.sum_triple rowNo (fun n => (tn n, hb (tr n), hr (tr n))) (fun t b i => by
    have := t.isLt; have := b.isLt; have := i.isLt
    have h1 : (1024 * t.val + (512 * b.val + i.val)) / 1024 = t.val := by omega
    have h2 : (1024 * t.val + (512 * b.val + i.val)) % 1024 / 512 = b.val := by omega
    have h3 : (1024 * t.val + (512 * b.val + i.val)) % 1024 % 512 = i.val := by omega
    exact Prod.ext (Fin.ext h1) (Prod.ext (Fin.ext h2) (Fin.ext h3))) rowNo_tn f

theorem lossTo_apply : lossTo x cb 31 = totalErr x (books cb) := by
  have h : ∀ n, lossTo x cb n = ∑ t ∈ Finset.range (n + 1), lossOf x cb (Fin.ofNat 32 t) := by
    intro n
    induction n with
    | zero => simp [lossTo]
    | succ n ih => rw [Finset.sum_range_succ, ← ih]; rfl
  rw [h, Finset.sum_range]
  have e : ∀ t : Fin 32, Fin.ofNat 32 t.val = t := fun t => Fin.ext (Nat.mod_eq_of_lt t.isLt)
  simp only [e, lossOf_apply x cb hcb]
  rw [Finset.sum_comm]
  exact Finset.sum_congr rfl fun n _ => sum_rows fun i => Spec.errAt (xRow x i) (books cb) n

/-- Result 2 of the kernel. -/
theorem lossVal_apply (i : S_.Idx) :
    lossVal x cb i = Ideal.div (Ideal.ofBits .f32 0x3FA00000#32 * totalErr x (books cb)) (Ideal.ofBits .f32 0x4B000000#32) := by
  rw [← lossTo_apply x cb hcb]
  unfold lossVal
  generalize lossTo x cb 31 = L
  rfl

end Cert.KernelIdeal.Value
-- ==== Proof.Settled.lean ====
/-
  A straight line of host operations, each writing one fresh buffer: the memory it leaves is one that no operation of it
  changes any more, so each of its results is its function's value at the contents left in its operands.
-/
module

public import proofs.«01_k».proof.ReferenceIdeal
public import Idealize.ShloMosaic.Lib.StableHlo.Run

@[expose] public section

open Idealize.ShloMosaic Idealize.ShloMosaic.TcCoe Idealize.ShloMosaic.StableHlo

namespace Cert.Settled

variable {τ : Topo} {sig : RefSig} {Val : EltTy → Type}

/-- The number of a buffer in its memory space. -/
def place (r : Ref sig .tc) : ℕ := r.idx.val

/-- The operation writes buffer number `n` alone, from buffers of smaller number. -/
structure OpAt (n : ℕ) (op : HloOp τ sig Val) : Prop where
  bufs : op.bufs ⊆ tcRefs τ sig
  fresh : op.fresh = ∅
  writes : ∃ y : Ref sig .tc, place y = n ∧ op.writes = {Proc.devRef .tc y} ∧
    ∀ V W : Valuation τ sig Val, (∀ r : Ref sig .tc, place r < n → V (Proc.devRef .tc r) = W (Proc.devRef .tc r)) →
      op.result V (Proc.devRef .tc y) = op.result W (Proc.devRef .tc y)

/-- The operations write buffers `n`, `n + 1`, … in order, each from earlier ones. -/
def Line : ℕ → List (HloOp τ sig Val) → Prop
  | _, [] => True
  | n, op :: ops => OpAt n op ∧ Line (n + 1) ops

theorem line_append {l l' : List (HloOp τ sig Val)} : ∀ {n : ℕ}, Line n l → Line (n + l.length) l' → Line n (l ++ l') := by
  induction l with
  | nil => intro n _ h'; simpa using h'
  | cons op l ih =>
    intro n h h'
    refine ⟨h.1, ih h.2 ?_⟩
    have e : n + 1 + l.length = n + (op :: l).length := by simp [List.length_cons]; omega
    rw [e]; exact h'

theorem line_opAt {ops : List (HloOp τ sig Val)} : ∀ {n : ℕ}, Line n ops → ∀ op ∈ ops, ∃ k, OpAt k op := by
  induction ops with
  | nil => intro _ _ op h; exact absurd h (by simp)
  | cons o l ih =>
    intro n h op hop
    rcases List.mem_cons.mp hop with e | e
    · exact ⟨n, e ▸ h.1⟩
    · exact ih h.2 op e

theorem line_bufs {n : ℕ} {ops : List (HloOp τ sig Val)} (h : Line n ops) :
    ops.Forall fun op => op.bufs ⊆ tcRefs τ sig :=
  List.forall_iff_forall_mem.mpr fun op hop => (line_opAt h op hop).elim fun _ k => k.bufs

theorem line_fresh {n : ℕ} {ops : List (HloOp τ sig Val)} (h : Line n ops) : ∀ op ∈ ops, op.fresh = ∅ :=
  fun op hop => (line_opAt h op hop).elim fun _ k => k.fresh

/-- A line leaves the buffers before its first one. -/
theorem line_before {ops : List (HloOp τ sig Val)} : ∀ {n : ℕ}, Line n ops → ∀ (V : Valuation τ sig Val) (r : Ref sig .tc),
    place r < n → after ops V (Proc.devRef .tc r) = V (Proc.devRef .tc r) := by
  induction ops with
  | nil => intro _ _ V r _; rfl
  | cons op l ih =>
    intro n h V r hr
    rw [after_cons, ih h.2 (op.result V) r (by omega)]
    obtain ⟨y, hy, hw, -⟩ := h.1.writes
    exact result_of_writes_ne op V y r hw (fun e => by subst e; omega)

/-- What a line leaves is changed by none of its operations. -/
theorem line_settled {ops : List (HloOp τ sig Val)} : ∀ {n : ℕ}, Line n ops → ∀ (V : Valuation τ sig Val),
    ∀ op ∈ ops, op.result (after ops V) = after ops V := by
  induction ops with
  | nil => intro _ _ V op h; exact absurd h (by simp)
  | cons o l ih =>
    intro n h V op hop
    rw [after_cons]
    rcases List.mem_cons.mp hop with e | e
    · subst e
      obtain ⟨y, hy, hw, hc⟩ := h.1.writes
      funext b
      by_cases hb : b ∈ op.writes
      · rw [hw, Finset.mem_singleton] at hb
        subst hb
        rw [line_before h.2 (op.result V) y (by omega)]
        refine hc _ _ fun r hr => ?_
        rw [line_before h.2 (op.result V) r (by omega)]
        exact result_of_writes_ne op V y r hw (fun e => by subst e; omega)
      · exact op.result_of_not_mem _ hb
    · exact ih h.2 (o.result V) op e

/-! ## The builders -/

section Builders

variable {n : ℕ} {x a b c e y : Ref sig .tc}

theorem opAt_nullary (v : y.ty.Contents Val) (hy) (h : place y = n) : OpAt n (nullary (τ := τ) y v hy) :=
  ⟨nullary_bufs_sub .., rfl, y, h, rfl, fun V W _ => by rw [nullary_result, nullary_result]⟩

theorem opAt_unary (f : x.ty.Contents Val → y.ty.Contents Val) (hx hy) (h : place y = n) (h1 : place x < n) :
    OpAt n (unary (τ := τ) x y f hx hy) :=
  ⟨unary_bufs_sub .., rfl, y, h, rfl, fun V W k => by rw [unary_result, unary_result, k x h1]⟩

theorem opAt_binary (f : a.ty.Contents Val → b.ty.Contents Val → y.ty.Contents Val) (ha hb hy) (h : place y = n)
    (h1 : place a < n) (h2 : place b < n) : OpAt n (binary (τ := τ) a b y f ha hb hy) :=
  ⟨binary_bufs_sub .., rfl, y, h, rfl, fun V W k => by rw [binary_result, binary_result, k a h1, k b h2]⟩

theorem opAt_ternary (f : c.ty.Contents Val → a.ty.Contents Val → b.ty.Contents Val → y.ty.Contents Val) (hc ha hb hy)
    (h : place y = n) (h1 : place c < n) (h2 : place a < n) (h3 : place b < n) :
    OpAt n (ternary (τ := τ) c a b y f hc ha hb hy) :=
  ⟨ternary_bufs_sub .., rfl, y, h, rfl, fun V W k => by rw [ternary_result, ternary_result, k a h2, k b h3, k c h1]⟩

theorem opAt_quaternary
    (f : a.ty.Contents Val → b.ty.Contents Val → c.ty.Contents Val → e.ty.Contents Val → y.ty.Contents Val) (ha hb hc he hy)
    (h : place y = n) (h1 : place a < n) (h2 : place b < n) (h3 : place c < n) (h4 : place e < n) :
    OpAt n (quaternary (τ := τ) a b c e y f ha hb hc he hy) :=
  ⟨quaternary_bufs_sub .., rfl, y, h, rfl,
    fun V W k => by rw [quaternary_result, quaternary_result, k a h1, k b h2, k c h3, k e h4]⟩

theorem opAt_reshape (he hn hx hy) (h : place y = n) (h1 : place x < n) :
    OpAt n (reshape (τ := τ) (Val := Val) x y he hn hx hy) :=
  ⟨reshape_bufs_sub .., rfl, y, h, rfl, fun V W k => by rw [reshape_result, reshape_result, k x h1]⟩

theorem opAt_nary {d : ℕ} (xs : Fin d → Ref sig .tc) (f : ((k : Fin d) → (xs k).ty.Contents Val) → y.ty.Contents Val)
    (hxs hy) (h : place y = n) (h1 : ∀ k, place (xs k) < n) : OpAt n (nary (τ := τ) xs y f hxs hy) :=
  ⟨nary_bufs_sub .., rfl, y, h, rfl, fun V W k => by
    rw [nary_result, nary_result]; exact congrArg f (funext fun i => k _ (h1 i))⟩

end Builders

/-! ## Reading a settled memory -/

section Read

variable {W : Valuation τ sig Val} {T Ta Tb Tc Te : BufTy}

/-- The contents of a typed reference. -/
def get (W : Valuation τ sig Val) (t : TRef sig T) : T.Contents Val := t.ofBuf (W (Proc.devRef .tc t.ref))

theorem get_nullary {y : TRef sig T} {v : T.Contents Val} (h : (TRef.nullary (τ := τ) y v).result W = W) :
    get W y = v := by
  have e := (congrFun h (Proc.devRef .tc y.ref)).symm
  rw [nullary_result] at e
  unfold get; rw [e]; exact y.ofBuf_toBuf v

theorem get_unary {x : TRef sig Ta} {y : TRef sig T} {f : Ta.Contents Val → T.Contents Val}
    (h : (TRef.unary (τ := τ) x y f).result W = W) : get W y = f (get W x) := by
  have e := (congrFun h (Proc.devRef .tc y.ref)).symm
  rw [unary_result] at e
  unfold get; rw [e]; exact y.ofBuf_toBuf _

theorem get_binary {a : TRef sig Ta} {b : TRef sig Tb} {y : TRef sig T}
    {f : Ta.Contents Val → Tb.Contents Val → T.Contents Val}
    (h : (TRef.binary (τ := τ) a b y f).result W = W) : get W y = f (get W a) (get W b) := by
  have e := (congrFun h (Proc.devRef .tc y.ref)).symm
  rw [binary_result] at e
  unfold get; rw [e]; exact y.ofBuf_toBuf _

theorem get_ternary {c : TRef sig Tc} {a : TRef sig Ta} {b : TRef sig Tb} {y : TRef sig T}
    {f : Tc.Contents Val → Ta.Contents Val → Tb.Contents Val → T.Contents Val}
    (h : (TRef.ternary (τ := τ) c a b y f).result W = W) : get W y = f (get W c) (get W a) (get W b) := by
  have e := (congrFun h (Proc.devRef .tc y.ref)).symm
  rw [ternary_result] at e
  unfold get; rw [e]; exact y.ofBuf_toBuf _

theorem get_quaternary {a : TRef sig Ta} {b : TRef sig Tb} {c : TRef sig Tc} {d : TRef sig Te} {y : TRef sig T}
    {f : Ta.Contents Val → Tb.Contents Val → Tc.Contents Val → Te.Contents Val → T.Contents Val}
    (h : (TRef.quaternary (τ := τ) a b c d y f).result W = W) :
    get W y = f (get W a) (get W b) (get W c) (get W d) := by
  have e := (congrFun h (Proc.devRef .tc y.ref)).symm
  rw [quaternary_result] at e
  unfold get; rw [e]; exact y.ofBuf_toBuf _

variable {x a b y : Ref sig .tc}

theorem at_nullary {v : y.ty.Contents Val} {hy} (h : (nullary (τ := τ) y v hy).result W = W) : W (Proc.devRef .tc y) = v :=
  (congrFun h _).symm.trans (nullary_result ..)

theorem at_unary {f : x.ty.Contents Val → y.ty.Contents Val} {hx hy} (h : (unary (τ := τ) x y f hx hy).result W = W) :
    W (Proc.devRef .tc y) = f (W (Proc.devRef .tc x)) :=
  (congrFun h _).symm.trans (unary_result ..)

theorem at_binary {f : a.ty.Contents Val → b.ty.Contents Val → y.ty.Contents Val} {ha hb hy}
    (h : (binary (τ := τ) a b y f ha hb hy).result W = W) :
    W (Proc.devRef .tc y) = f (W (Proc.devRef .tc a)) (W (Proc.devRef .tc b)) :=
  (congrFun h _).symm.trans (binary_result ..)

theorem at_reshape {he hn hx hy} (h : (reshape (τ := τ) (Val := Val) x y he hn hx hy).result W = W) :
    W (Proc.devRef .tc y) = fun i => he ▸ shapeCast y.ty.shape (W (Proc.devRef .tc x)) hn i :=
  (congrFun h _).symm.trans (reshape_result ..)

theorem at_nary {d : ℕ} {xs : Fin d → Ref sig .tc} {f : ((k : Fin d) → (xs k).ty.Contents Val) → y.ty.Contents Val}
    {hxs hy} (h : (nary (τ := τ) xs y f hxs hy).result W = W) :
    W (Proc.devRef .tc y) = f fun k => W (Proc.devRef .tc (xs k)) :=
  (congrFun h _).symm.trans (nary_result ..)

end Read

end Cert.Settled
-- ==== Proof.RefOps.lean ====
/-
  The reference program's host operations as lists, one list per stage of a level, and its run: what each buffer holds
  at the end is changed by none of the operations.
-/
module

public import proofs.«01_k».proof.Proof.Gen.ReferenceIdeal
public import proofs.«01_k».proof.Proof.Settled

@[expose] public section

noncomputable section

namespace Cert.ReferenceIdeal.Value

open Cert.ReferenceIdeal Cert.ReferenceIdeal.Gen Cert.Settled
open Idealize.ShloMosaic Idealize.ShloMosaic.TcCoe Idealize.SL.Sem Idealize.ShloMosaic.StableHlo

variable {F : FTy → Type} [FloatOps F]

/-- A buffer of rows. -/
abbrev Rows := TRef sig ⟨S32768x64, .f32⟩
/-- A buffer of a codebook. -/
abbrev Codes := TRef sig ⟨S1024x64, .f32⟩

/-! ## A level's operations -/

/-- The distances. -/
def distOps (arg0 : Rows) (arg1 : Codes) (φ : fn_vq_layer_0.Bufs) : List (HloOp τ sig (Elt F)) :=
  [ TRef.binary arg0 arg0 φ.v0 mulf,
    TRef.nullary φ.cst (constant S_ .f32 0x00000000#32),
    TRef.binary φ.v0 φ.cst φ.v1 (fun x v => Host.reduceAdd x v reducesTo_S32768x64_S32768_d1 h_S_),
    TRef.unary φ.v1 φ.v2 (broadcastInDim S32768x1 ![0] bcast_S32768_S32768x1_0),
    TRef.binary arg1 arg1 φ.v3 mulf,
    TRef.nullary φ.cst_0 (constant S_ .f32 0x00000000#32),
    TRef.binary φ.v3 φ.cst_0 φ.v4 (fun x v => Host.reduceAdd x v reducesTo_S1024x64_S1024_d1 h_S_),
    TRef.unary φ.v4 φ.v5 (broadcastInDim S1x1024 ![1] bcast_S1024_S1x1024_1),
    TRef.unary φ.v2 φ.v6 (broadcastInDim S32768x1024 ![0, 1] bcast_S32768x1_S32768x1024_0_1),
    TRef.unary φ.v5 φ.v7 (broadcastInDim S32768x1024 ![0, 1] bcast_S1x1024_S32768x1024_0_1),
    TRef.binary φ.v6 φ.v7 φ.v8 addf,
    TRef.nullary φ.cst_1 (constant S_ .f32 0x40000000#32),
    TRef.unary φ.cst_1 φ.v9 (broadcastInDim S32768x64 ![] bcast_S_S32768x64),
    TRef.binary φ.v9 arg0 φ.v10 mulf,
    TRef.unary arg1 φ.v11 (transpose S64x1024 [1, 0] · transposes_S1024x64_S64x1024_1_0),
    TRef.binary φ.v10 φ.v11 φ.v12 (fun l r => Host.dotGeneral dot_S32768x64_S64x1024_S32768x1024_1_0_0_1_n_n none l r),
    TRef.binary φ.v8 φ.v12 φ.v13 subf ]

/-- The index of the least distance. -/
def argOps (arg0 : TRef sig ⟨S32768x1024, .f32⟩) (φ : fn_argmin.Bufs) : List (HloOp τ sig (Elt F)) :=
  [ TRef.nullary φ.v0 (iotaInDim S32768x1024 32 1),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S32768x1024_S32768_d1 h_S_ j).1),
    TRef.quaternary arg0 φ.v0 φ.cst φ.c φ.v1_1 (fun x y u v j => (Host.argReduce reducer_argmin_f32_i32 x y u v reducesTo_S32768x1024_S32768_d1 h_S_ j).2) ]

/-- The codes at the indices. -/
def takeOps (arg0 : Codes) (arg1 : TRef sig ⟨S32768, .i32⟩) (φ : fn_take.Bufs) : List (HloOp τ sig (Elt F)) :=
  [ TRef.nullary φ.c (constantI S_ 32 0#32),
    TRef.unary φ.c φ.v0 (broadcastInDim S32768 ![] bcast_S_S32768),
    TRef.binary arg1 φ.v0 φ.v1 (cmpi .slt),
    TRef.nullary φ.c_0 (constantI S_ 32 1024#32),
    TRef.unary φ.c_0 φ.v2 (broadcastInDim S32768 ![] bcast_S_S32768),
    TRef.binary arg1 φ.v2 φ.v3 addi,
    TRef.ternary φ.v1 φ.v3 arg1 φ.call0.v0 select,
    TRef.unary φ.call0.v0 φ.v5 (broadcastInDim S32768x1 ![0] bcast_S32768_S32768x1_0),
    TRef.nullary φ.c_1 (constantI S1 32 1023#32),
    TRef.nullary φ.c_2 (constantI S_ 32 0#32),
    TRef.unary φ.c_2 φ.v6 (broadcastInDim S32768x1 ![] bcast_S_S32768x1),
    TRef.binary φ.v5 φ.v6 φ.v7 (cmpi .sge),
    TRef.unary φ.c_1 φ.v8 (broadcastInDim S1x1 ![1] bcast_S1_S1x1_1),
    TRef.unary φ.v8 φ.v9 (broadcastInDim S32768x1 ![0, 1] bcast_S1x1_S32768x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S32768x1_S32768_d1 h_S_),
    TRef.binary arg0 φ.v5 φ.v13 (fun x i => Host.gather gather_S1024x64_S32768x1_S32768x64_1_0_n_n_0_1_164 x i),
    TRef.unary φ.v12 φ.v14 (broadcastInDim S32768x64 ![0] bcast_S32768_S32768x64_0),
    TRef.nullary φ.cst (constant S_ .f32 0x7FC00000#32),
    TRef.unary φ.cst φ.v15 (broadcastInDim S32768x64 ![] bcast_S_S32768x64),
    TRef.ternary φ.v14 φ.v13 φ.v15 φ.v16 select ]

/-- The loss and the quantised rows. -/
def restOps (arg0 : Rows) (φ : fn_vq_layer_0.Bufs) : List (HloOp τ sig (Elt F)) :=
  [ TRef.binary φ.call1.v16 arg0 φ.v16 subf,
    TRef.binary φ.v16 φ.v16 φ.v17 mulf,
    TRef.nullary φ.cst_2 (constant S_ .f32 0x00000000#32),
    TRef.binary φ.v17 φ.cst_2 φ.v18 (fun x v => Host.reduceAdd x v reducesTo_S32768x64_S_d0_1 h_S_),
    TRef.nullary φ.cst_3 (constant S_ .f32 0x4A000000#32),
    TRef.binary φ.v18 φ.cst_3 φ.v19 Host.divf,
    TRef.binary φ.call1.v16 arg0 φ.v20 subf,
    TRef.binary φ.v20 φ.v20 φ.v21 mulf,
    TRef.nullary φ.cst_4 (constant S_ .f32 0x00000000#32),
    TRef.binary φ.v21 φ.cst_4 φ.v22 (fun x v => Host.reduceAdd x v reducesTo_S32768x64_S_d0_1 h_S_),
    TRef.nullary φ.cst_5 (constant S_ .f32 0x4A000000#32),
    TRef.binary φ.v22 φ.cst_5 φ.v23 Host.divf,
    TRef.nullary φ.cst_6 (constant S_ .f32 0x3E800000#32),
    TRef.binary φ.cst_6 φ.v23 φ.v24 mulf,
    TRef.binary φ.v19 φ.v24 φ.v25 addf,
    TRef.binary φ.call1.v16 arg0 φ.v26 subf,
    TRef.binary arg0 φ.v26 φ.v27 addf ]

/-- A level. -/
def levelOps (arg0 : Rows) (arg1 : Codes) (φ : fn_vq_layer_0.Bufs) : List (HloOp τ sig (Elt F)) :=
  distOps arg0 arg1 φ ++ (argOps φ.v13 φ.call0 ++ (takeOps arg1 φ.call0.v1_1 φ.call1 ++ restOps arg0 φ))

/-- The first level's buffers, as a record of the other levels' kind. -/
def bufs0 : fn_vq_layer_0.Bufs where
  v0 := main_call0.v0
  cst := main_call0.cst
  v1 := main_call0.v1
  v2 := main_call0.v2
  v3 := main_call0.v3
  cst_0 := main_call0.cst_0
  v4 := main_call0.v4
  v5 := main_call0.v5
  v6 := main_call0.v6
  v7 := main_call0.v7
  v8 := main_call0.v8
  cst_1 := main_call0.cst_1
  v9 := main_call0.v9
  v10 := main_call0.v10
  v11 := main_call0.v11
  v12 := main_call0.v12
  v13 := main_call0.v13
  call0 := main_call0.call0
  call1 := main_call0.call1
  v16 := main_call0.v16
  v17 := main_call0.v17
  cst_2 := main_call0.cst_2
  v18 := main_call0.v18
  cst_3 := main_call0.cst_3
  v19 := main_call0.v19
  v20 := main_call0.v20
  v21 := main_call0.v21
  cst_4 := main_call0.cst_4
  v22 := main_call0.v22
  cst_5 := main_call0.cst_5
  v23 := main_call0.v23
  cst_6 := main_call0.cst_6
  v24 := main_call0.v24
  v25 := main_call0.v25
  v26 := main_call0.v26
  v27 := main_call0.v27

/-! ## Between the levels -/

/-- The zero start and the first codebook. -/
def hostOps0 : List (HloOp τ sig (Elt F)) :=
  [ nullary main_cst (constant S_ .f32 0x00000000#32),
    unary main_cst main_v0 (broadcastInDim S32768x64 ![] bcast_S_S32768x64 : (⟨S_, .f32⟩ : BufTy).Contents (Elt F) → (⟨S32768x64, .f32⟩ : BufTy).Contents (Elt F)),
    unary main_arg1 main_v1 ((extractStridedSlice S1x1024x64 ![0, 0, 0] · slices_S4x1024x64_S1x1024x64_0_0_0) : (⟨S4x1024x64, .f32⟩ : BufTy).Contents (Elt F) → (⟨S1x1024x64, .f32⟩ : BufTy).Contents (Elt F)),
    reshape main_v1 main_v2 (rfl : (.f32 : EltTy) = .f32) shapeCasts_S1x1024x64_S1024x64 ]

/-- From the first level to the second. -/
def hostOps1 : List (HloOp τ sig (Elt F)) :=
  [ binary main_arg0 main_v3_0 main_v4 (subf : (⟨S32768x64, .f32⟩ : BufTy).Contents (Elt F) → (⟨S32768x64, .f32⟩ : BufTy).Contents (Elt F) → (⟨S32768x64, .f32⟩ : BufTy).Contents (Elt F)),
    binary main_v0 main_v3_0 main_v5 (addf : (⟨S32768x64, .f32⟩ : BufTy).Contents (Elt F) → (⟨S32768x64, .f32⟩ : BufTy).Contents (Elt F) → (⟨S32768x64, .f32⟩ : BufTy).Contents (Elt F)),
    unary main_arg1 main_v6 ((extractStridedSlice S1x1024x64 ![1, 0, 0] · slices_S4x1024x64_S1x1024x64_1_0_0) : (⟨S4x1024x64, .f32⟩ : BufTy).Contents (Elt F) → (⟨S1x1024x64, .f32⟩ : BufTy).Contents (Elt F)),
    reshape main_v6 main_v7 (rfl : (.f32 : EltTy) = .f32) shapeCasts_S1x1024x64_S1024x64 ]

/-- From the second level to the third. -/
def hostOps2 : List (HloOp τ sig (Elt F)) :=
  [ binary main_v4 main_v8_0 main_v9 (subf : (⟨S32768x64, .f32⟩ : BufTy).Contents (Elt F) → (⟨S32768x64, .f32⟩ : BufTy).Contents (Elt F) → (⟨S32768x64, .f32⟩ : BufTy).Contents (Elt F)),
    binary main_v5 main_v8_0 main_v10 (addf : (⟨S32768x64, .f32⟩ : BufTy).Contents (Elt F) → (⟨S32768x64, .f32⟩ : BufTy).Contents (Elt F) → (⟨S32768x64, .f32⟩ : BufTy).Contents (Elt F)),
    unary main_arg1 main_v11 ((extractStridedSlice S1x1024x64 ![2, 0, 0] · slices_S4x1024x64_S1x1024x64_2_0_0) : (⟨S4x1024x64, .f32⟩ : BufTy).Contents (Elt F) → (⟨S1x1024x64, .f32⟩ : BufTy).Contents (Elt F)),
    reshape main_v11 main_v12 (rfl : (.f32 : EltTy) = .f32) shapeCasts_S1x1024x64_S1024x64 ]

/-- From the third level to the fourth. -/
def hostOps3 : List (HloOp τ sig (Elt F)) :=
  [ binary main_v9 main_v13_0 main_v14 (subf : (⟨S32768x64, .f32⟩ : BufTy).Contents (Elt F) → (⟨S32768x64, .f32⟩ : BufTy).Contents (Elt F) → (⟨S32768x64, .f32⟩ : BufTy).Contents (Elt F)),
    binary main_v10 main_v13_0 main_v15 (addf : (⟨S32768x64, .f32⟩ : BufTy).Contents (Elt F) → (⟨S32768x64, .f32⟩ : BufTy).Contents (Elt F) → (⟨S32768x64, .f32⟩ : BufTy).Contents (Elt F)),
    unary main_arg1 main_v16 ((extractStridedSlice S1x1024x64 ![3, 0, 0] · slices_S4x1024x64_S1x1024x64_3_0_0) : (⟨S4x1024x64, .f32⟩ : BufTy).Contents (Elt F) → (⟨S1x1024x64, .f32⟩ : BufTy).Contents (Elt F)),
    reshape main_v16 main_v17 (rfl : (.f32 : EltTy) = .f32) shapeCasts_S1x1024x64_S1024x64 ]

/-- After the last level. -/
def hostOps4 : List (HloOp τ sig (Elt F)) :=
  [ binary main_v14 main_v18_0 main_v19 (subf : (⟨S32768x64, .f32⟩ : BufTy).Contents (Elt F) → (⟨S32768x64, .f32⟩ : BufTy).Contents (Elt F) → (⟨S32768x64, .f32⟩ : BufTy).Contents (Elt F)),
    binary main_v15 main_v18_0 main_v20 (addf : (⟨S32768x64, .f32⟩ : BufTy).Contents (Elt F) → (⟨S32768x64, .f32⟩ : BufTy).Contents (Elt F) → (⟨S32768x64, .f32⟩ : BufTy).Contents (Elt F)),
    unary main_v3_1 main_v21 (broadcastInDim S1 ![] bcast_S_S1 : (⟨S_, .f32⟩ : BufTy).Contents (Elt F) → (⟨S1, .f32⟩ : BufTy).Contents (Elt F)),
    unary main_v8_1 main_v22 (broadcastInDim S1 ![] bcast_S_S1 : (⟨S_, .f32⟩ : BufTy).Contents (Elt F) → (⟨S1, .f32⟩ : BufTy).Contents (Elt F)),
    unary main_v13_1 main_v23 (broadcastInDim S1 ![] bcast_S_S1 : (⟨S_, .f32⟩ : BufTy).Contents (Elt F) → (⟨S1, .f32⟩ : BufTy).Contents (Elt F)),
    unary main_v18_1 main_v24 (broadcastInDim S1 ![] bcast_S_S1 : (⟨S_, .f32⟩ : BufTy).Contents (Elt F) → (⟨S1, .f32⟩ : BufTy).Contents (Elt F)),
    nary ![main_v21, main_v22, main_v23, main_v24] main_v25 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))),
    nullary main_cst_0 (constant S_ .f32 0x00000000#32),
    binary main_v25 main_cst_0 main_v26 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_1 (constant S_ .f32 0x40800000#32),
    binary main_v26 main_cst_1 main_v27 (Host.divf : (⟨S_, .f32⟩ : BufTy).Contents (Elt F) → (⟨S_, .f32⟩ : BufTy).Contents (Elt F) → (⟨S_, .f32⟩ : BufTy).Contents (Elt F)),
    unary main_v3_2 main_v28 (broadcastInDim S32768x1 ![0] bcast_S32768_S32768x1_0 : (⟨S32768, .i32⟩ : BufTy).Contents (Elt F) → (⟨S32768x1, .i32⟩ : BufTy).Contents (Elt F)),
    unary main_v8_2 main_v29 (broadcastInDim S32768x1 ![0] bcast_S32768_S32768x1_0 : (⟨S32768, .i32⟩ : BufTy).Contents (Elt F) → (⟨S32768x1, .i32⟩ : BufTy).Contents (Elt F)),
    unary main_v13_2 main_v30 (broadcastInDim S32768x1 ![0] bcast_S32768_S32768x1_0 : (⟨S32768, .i32⟩ : BufTy).Contents (Elt F) → (⟨S32768x1, .i32⟩ : BufTy).Contents (Elt F)),
    unary main_v18_2 main_v31 (broadcastInDim S32768x1 ![0] bcast_S32768_S32768x1_0 : (⟨S32768, .i32⟩ : BufTy).Contents (Elt F) → (⟨S32768x1, .i32⟩ : BufTy).Contents (Elt F)),
    nary ![main_v28, main_v29, main_v30, main_v31] main_v32 (fun u => (concatenate S32768x4 1 [⟨S32768x1, (u 0 : (⟨S32768x1, .i32⟩ : BufTy).Contents (Elt F))⟩, ⟨S32768x1, (u 1 : (⟨S32768x1, .i32⟩ : BufTy).Contents (Elt F))⟩, ⟨S32768x1, (u 2 : (⟨S32768x1, .i32⟩ : BufTy).Contents (Elt F))⟩, ⟨S32768x1, (u 3 : (⟨S32768x1, .i32⟩ : BufTy).Contents (Elt F))⟩] concatenates_S32768x1_S32768x1_S32768x1_S32768x1_S32768x4_d1 : (⟨S32768x4, .i32⟩ : BufTy).Contents (Elt F))) ]

/-- All of them. -/
def ops : List (HloOp τ sig (Elt F)) :=
  hostOps0 ++ (levelOps (.of main_arg0) (.of main_v2) bufs0 ++ (hostOps1 ++ (levelOps (.of main_v4) (.of main_v7) main_call1
    ++ (hostOps2 ++ (levelOps (.of main_v9) (.of main_v12) main_call2 ++ (hostOps3
    ++ (levelOps (.of main_v14) (.of main_v17) main_call3 ++ hostOps4)))))))

set_option maxRecDepth 8192 in
set_option maxHeartbeats 4000000 in
theorem main_eq (c : Dev nD) : main (F := F) c = seq ops := rfl

end Cert.ReferenceIdeal.Value

end
-- ==== Proof.RefRun.lean ====
/-
  The run of the reference program: a memory that none of its operations changes.
-/
module

public import proofs.«01_k».proof.Proof.RefOps
public import Idealize.ShloMosaic.Lib.Pipeline.Frame

@[expose] public section

set_option maxRecDepth 8192

noncomputable section

namespace Cert.ReferenceIdeal.Value

open Cert.ReferenceIdeal Cert.ReferenceIdeal.Gen Cert.Settled
open Idealize.ShloMosaic Idealize.ShloMosaic.TcCoe Idealize.SL.Sem Idealize.ShloMosaic.StableHlo

variable {F : FTy → Type} [FloatOps F]

/-- The levels' arguments and buffers. -/
def levelX : Fin 4 → Rows := ![.of main_arg0, .of main_v4, .of main_v9, .of main_v14]
@[inherit_doc levelX]
def levelC : Fin 4 → Codes := ![.of main_v2, .of main_v7, .of main_v12, .of main_v17]
@[inherit_doc levelX]
def levelB : Fin 4 → fn_vq_layer_0.Bufs := ![bufs0, main_call1, main_call2, main_call3]
/-- The number of a level's first buffer. -/
def levelAt : Fin 4 → ℕ := ![6, 72, 138, 204]

theorem level_line (k : Fin 4) : Line (levelAt k) (levelOps (F := F) (levelX k) (levelC k) (levelB k)) := by
  fin_cases k <;>
  · unfold levelOps distOps argOps takeOps restOps
    repeat' first
      | exact trivial
      | with_reducible exact opAt_nullary _ _ (by decide)
      | with_reducible exact opAt_unary _ _ _ (by decide) (by decide)
      | with_reducible exact opAt_binary _ _ _ _ (by decide) (by decide) (by decide)
      | with_reducible exact opAt_ternary _ _ _ _ _ (by decide) (by decide) (by decide) (by decide)
      | with_reducible exact opAt_quaternary _ _ _ _ _ _ (by decide) (by decide) (by decide) (by decide) (by decide)
      | apply And.intro

theorem host_line :
    Line 2 (hostOps0 (F := F)) ∧ Line 68 (hostOps1 (F := F)) ∧ Line 134 (hostOps2 (F := F)) ∧ Line 200 (hostOps3 (F := F))
      ∧ Line 266 (hostOps4 (F := F)) := by
  unfold hostOps0 hostOps1 hostOps2 hostOps3 hostOps4
  repeat' first
    | exact trivial
    | with_reducible exact opAt_nullary _ _ (by decide)
    | with_reducible exact opAt_unary _ _ _ (by decide) (by decide)
    | with_reducible exact opAt_binary _ _ _ _ (by decide) (by decide) (by decide)
    | with_reducible exact opAt_reshape _ _ _ _ (by decide) (by decide)
    | with_reducible exact opAt_nary _ _ _ _ (by decide) (by decide)
    | apply And.intro

theorem ops_line : Line 2 (ops (F := F)) :=
  have h := host_line (F := F)
  line_append h.1 (line_append (level_line 0) (line_append h.2.1 (line_append (level_line 1) (line_append h.2.2.1
    (line_append (level_line 2) (line_append h.2.2.2.1 (line_append (level_line 3) h.2.2.2.2)))))))

/-- The contents the reference leaves. -/
def final (m : (ℓ : Loc nD τ sig) → Buf (Elt F) ℓ) (c : Dev nD) : Valuation τ sig (Elt F) := after ops (launchContents m c)

theorem final_settled (m : (ℓ : Loc nD τ sig) → Buf (Elt F) ℓ) (c : Dev nD) :
    ∀ op ∈ ops (F := F), op.result (final m c) = final m c := line_settled ops_line _

theorem final_arg (m : (ℓ : Loc nD τ sig) → Buf (Elt F) ℓ) (c : Dev nD) (r : Ref sig .tc) (h : place r < 2) :
    final m c (Proc.devRef .tc r) = m ((c.tc : Thread nD τ).loc r) := line_before ops_line _ r h

theorem scoped_refs : (Finset.univ.filter fun b : Ref sig .tc => b.isScoped) = ∅ := by decide
theorem scoped_sems : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = final m c (Proc.devRef .tc b) :=
  run_seq scoped_refs scoped_sems defs main (fun _ => ops) main_eq (fun _ => line_bufs ops_line) m ρ
    fun _ => line_fresh ops_line

end Cert.ReferenceIdeal.Value

end
-- ==== Proof.RefStages.lean ====
/-
  What a level of the reference computes from its rows and its codebook, as functions of the two arrays.
-/
module

public import proofs.«01_k».proof.Proof.RefRun

@[expose] public section

noncomputable section

namespace Cert.ReferenceIdeal.Value

open Cert.ReferenceIdeal Cert.ReferenceIdeal.Gen Cert.Settled
open Idealize.ShloMosaic Idealize.ShloMosaic.TcCoe Idealize.SL.Sem Idealize.ShloMosaic.StableHlo

variable {F : FTy → Type} [FloatOps F]

/-- The distances of the rows to the codes. -/
def distOf (r : FVec F S32768x64 .f32) (b : FVec F S1024x64 .f32) : FVec F S32768x1024 .f32 :=
  subf
    (addf
      (broadcastInDim S32768x1024 ![0, 1] bcast_S32768x1_S32768x1024_0_1 (broadcastInDim S32768x1 ![0] bcast_S32768_S32768x1_0
        (Host.reduceAdd (mulf r r) (constant S_ .f32 0x00000000#32) reducesTo_S32768x64_S32768_d1 h_S_)))
      (broadcastInDim S32768x1024 ![0, 1] bcast_S1x1024_S32768x1024_0_1 (broadcastInDim S1x1024 ![1] bcast_S1024_S1x1024_1
        (Host.reduceAdd (mulf b b) (constant S_ .f32 0x00000000#32) reducesTo_S1024x64_S1024_d1 h_S_))))
    (Host.dotGeneral dot_S32768x64_S64x1024_S32768x1024_1_0_0_1_n_n none
      (mulf (broadcastInDim S32768x64 ![] bcast_S_S32768x64 (constant S_ .f32 0x40000000#32)) r)
      (transpose S64x1024 [1, 0] b transposes_S1024x64_S64x1024_1_0))

/-- The index of the least distance of each row. -/
def leastOf (d : FVec F S32768x1024 .f32) : IVec S32768 32 :=
  fun j => (Host.argReduce reducer_argmin_f32_i32 d (iotaInDim S32768x1024 32 1) (constant S_ .f32 0x7F800000#32)
    (constantI S_ 32 0#32) reducesTo_S32768x1024_S32768_d1 h_S_ j).2

/-- The indices a gather starts at: a negative one counts from the end. -/
def startOf (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- Whether an index is inside the codebook. -/
def insideOf (s : IVec S32768x1 32) : IVec S32768 1 :=
  Host.reduce IntOp.andi
    (andi (cmpi .sge s (broadcastInDim S32768x1 ![] bcast_S_S32768x1 (constantI S_ 32 0#32)))
      (cmpi .sle s (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The codes at the indices. -/
def takeOf (b : FVec F S1024x64 .f32) (s : IVec S32768x1 32) : FVec F S32768x64 .f32 :=
  select (broadcastInDim S32768x64 ![0] bcast_S32768_S32768x64_0 (insideOf s))
    (Host.gather gather_S1024x64_S32768x1_S32768x64_1_0_n_n_0_1_164 b s)
    (broadcastInDim S32768x64 ![] bcast_S_S32768x64 (constant S_ .f32 0x7FC00000#32))

/-- The mean square of an array of rows. -/
def meanOf (e : FVec F S32768x64 .f32) : FVec F S_ .f32 :=
  Host.divf (Host.reduceAdd (mulf e e) (constant S_ .f32 0x00000000#32) reducesTo_S32768x64_S_d0_1 h_S_)
    (constant S_ .f32 0x4A000000#32)

/-- A level's indices. -/
def idxOf (r : FVec F S32768x64 .f32) (b : FVec F S1024x64 .f32) : IVec S32768 32 := leastOf (distOf r b)

/-- A level's codes. -/
def codesOf (r : FVec F S32768x64 .f32) (b : FVec F S1024x64 .f32) : FVec F S32768x64 .f32 := takeOf b (startOf (idxOf r b))

/-- A level's loss. -/
def lossOf (r : FVec F S32768x64 .f32) (b : FVec F S1024x64 .f32) : FVec F S_ .f32 :=
  addf (meanOf (subf (codesOf r b) r)) (mulf (constant S_ .f32 0x3E800000#32) (meanOf (subf (codesOf r b) r)))

/-- A level's quantised rows. -/
def quantOf (r : FVec F S32768x64 .f32) (b : FVec F S1024x64 .f32) : FVec F S32768x64 .f32 :=
  addf r (subf (codesOf r b) r)

variable {W : Valuation τ sig (Elt F)} {x : Rows} {b : Codes}

theorem get_dist {φ : fn_vq_layer_0.Bufs} (h : ∀ op ∈ distOps (F := F) x b φ, op.result W = W) :
    get W φ.v13 = distOf (get W x) (get W b) := by
  unfold distOps at h
  simp only [List.forall_mem_cons] at h
  obtain ⟨h0, h1, h2, h3, h4, h5, h6, h7, h8, h9, h10, h11, h12, h13, h14, h15, h16, -⟩ := h
  rw [get_binary h16, get_binary h15, get_unary h14, get_binary h13, get_unary h12, get_nullary h11, get_binary h10,
    get_unary h9, get_unary h8, get_unary h7, get_binary h6, get_nullary h5, get_binary h4, get_unary h3, get_binary h2,
    get_nullary h1, get_binary h0]
  rfl

theorem get_least {d : TRef sig ⟨S32768x1024, .f32⟩} {φ : fn_argmin.Bufs}
    (h : ∀ op ∈ argOps (F := F) d φ, op.result W = W) : get W φ.v1_1 = leastOf (get W d) := by
  unfold argOps at h
  simp only [List.forall_mem_cons] at h
  obtain ⟨h0, h1, h2, h3, h4, -⟩ := h
  rw [get_quaternary h4, get_nullary h2, get_nullary h1, get_nullary h0]
  rfl

theorem get_take {i : TRef sig ⟨S32768, .i32⟩} {φ : fn_take.Bufs}
    (h : ∀ op ∈ takeOps (F := F) b i φ, op.result W = W) : get W φ.v16 = takeOf (get W b) (startOf (get W i)) := by
  unfold takeOps at h
  simp only [List.forall_mem_cons] at h
  obtain ⟨h0, h1, h2, h3, h4, h5, h6, h7, h8, h9, h10, h11, h12, h13, h14, h15, h16, h17, h18, h19, h20, h21, h22, -⟩ := h
  have e : get W φ.v5 = startOf (get W i) := by
    rw [get_unary h7, get_ternary h6, get_binary h5, get_unary h4, get_nullary h3, get_binary h2, get_unary h1, get_nullary h0]
    rfl
  rw [get_ternary h22, get_unary h21, get_nullary h20, get_unary h19, get_binary h18, get_binary h17, get_nullary h16,
    get_binary h15, get_binary h14, get_unary h13, get_unary h12, get_binary h11, get_unary h10, get_nullary h9,
    get_nullary h8, e]
  rfl

/-- What a level leaves in its three results. -/
theorem get_level {φ : fn_vq_layer_0.Bufs} (h : ∀ op ∈ levelOps (F := F) x b φ, op.result W = W) :
    get W φ.v27 = quantOf (get W x) (get W b) ∧ get W φ.v25 = lossOf (get W x) (get W b)
      ∧ get W φ.call0.v1_1 = idxOf (get W x) (get W b) := by
  unfold levelOps at h
  simp only [List.forall_mem_append] at h
  obtain ⟨hd, ha, ht, h⟩ := h
  have ei : get W φ.call0.v1_1 = idxOf (get W x) (get W b) := by rw [get_least ha, get_dist hd]; rfl
  have ec : get W φ.call1.v16 = codesOf (get W x) (get W b) := by rw [get_take ht, ei]; rfl
  unfold restOps at h
  simp only [List.forall_mem_cons] at h
  obtain ⟨h0, h1, h2, h3, h4, h5, h6, h7, h8, h9, h10, h11, h12, h13, h14, h15, h16, -⟩ := h
  refine ⟨?_, ?_, ei⟩
  · rw [get_binary h16, get_binary h15, ec]; rfl
  · rw [get_binary h14, get_binary h13, get_nullary h12, get_binary h11, get_nullary h10, get_binary h9, get_nullary h8,
      get_binary h7, get_binary h6, get_binary h5, get_nullary h4, get_binary h3, get_nullary h2, get_binary h1, get_binary h0, ec]
    rfl

end Cert.ReferenceIdeal.Value

end
-- ==== Proof.RefChain.lean ====
/-
  The reference's three results as functions of its two arguments.
-/
module

public import proofs.«01_k».proof.Proof.RefStages

@[expose] public section

set_option maxRecDepth 8192

noncomputable section

namespace Cert.ReferenceIdeal.Value

open Cert.ReferenceIdeal Cert.ReferenceIdeal.Gen Cert.Settled
open Idealize.ShloMosaic Idealize.ShloMosaic.TcCoe Idealize.SL.Sem Idealize.ShloMosaic.StableHlo

variable {F : FTy → Type} [FloatOps F]

/-- The four codebooks. -/
def bookOf (C : FVec F S4x1024x64 .f32) : Fin 4 → FVec F S1024x64 .f32 :=
  ![shapeCast S1024x64 (extractStridedSlice S1x1024x64 ![0, 0, 0] C slices_S4x1024x64_S1x1024x64_0_0_0) shapeCasts_S1x1024x64_S1024x64,
    shapeCast S1024x64 (extractStridedSlice S1x1024x64 ![1, 0, 0] C slices_S4x1024x64_S1x1024x64_1_0_0) shapeCasts_S1x1024x64_S1024x64,
    shapeCast S1024x64 (extractStridedSlice S1x1024x64 ![2, 0, 0] C slices_S4x1024x64_S1x1024x64_2_0_0) shapeCasts_S1x1024x64_S1024x64,
    shapeCast S1024x64 (extractStridedSlice S1x1024x64 ![3, 0, 0] C slices_S4x1024x64_S1x1024x64_3_0_0) shapeCasts_S1x1024x64_S1024x64]

/-- What is left of the rows after `n` levels. -/
def leftOf (X : FVec F S32768x64 .f32) (C : FVec F S4x1024x64 .f32) : ℕ → FVec F S32768x64 .f32
  | 0 => X
  | n + 1 => subf (leftOf X C n) (quantOf (leftOf X C n) (bookOf C (Fin.ofNat 4 n)))

/-- The sum of the first `n` levels' quantised rows. -/
def sumOf (X : FVec F S32768x64 .f32) (C : FVec F S4x1024x64 .f32) : ℕ → FVec F S32768x64 .f32
  | 0 => broadcastInDim S32768x64 ![] bcast_S_S32768x64 (constant S_ .f32 0x00000000#32)
  | n + 1 => addf (sumOf X C n) (quantOf (leftOf X C n) (bookOf C (Fin.ofNat 4 n)))

/-- Level `n`'s loss, as an array of one. -/
def lossAt (X : FVec F S32768x64 .f32) (C : FVec F S4x1024x64 .f32) (n : Fin 4) : FVec F S1 .f32 :=
  broadcastInDim S1 ![] bcast_S_S1 (lossOf (leftOf X C n.val) (bookOf C n))

/-- Level `n`'s indices, as a column. -/
def idxAt (X : FVec F S32768x64 .f32) (C : FVec F S4x1024x64 .f32) (n : Fin 4) : IVec S32768x1 32 :=
  broadcastInDim S32768x1 ![0] bcast_S32768_S32768x1_0 (idxOf (leftOf X C n.val) (bookOf C n))

/-- The mean of the four losses. -/
def meanLoss (X : FVec F S32768x64 .f32) (C : FVec F S4x1024x64 .f32) : FVec F S_ .f32 :=
  Host.divf
    (Host.reduceAdd
      (concatenate S4 0 [⟨S1, lossAt X C 0⟩, ⟨S1, lossAt X C 1⟩, ⟨S1, lossAt X C 2⟩, ⟨S1, lossAt X C 3⟩]
        concatenates_S1_S1_S1_S1_S4_d0)
      (constant S_ .f32 0x00000000#32) reducesTo_S4_S_d0 h_S_)
    (constant S_ .f32 0x40800000#32)

/-- The indices of all levels. -/
def allIdx (X : FVec F S32768x64 .f32) (C : FVec F S4x1024x64 .f32) : IVec S32768x4 32 :=
  concatenate S32768x4 1 [⟨S32768x1, idxAt X C 0⟩, ⟨S32768x1, idxAt X C 1⟩, ⟨S32768x1, idxAt X C 2⟩, ⟨S32768x1, idxAt X C 3⟩]
    concatenates_S32768x1_S32768x1_S32768x1_S32768x1_S32768x4_d1

section Results

variable {W : Valuation τ sig (Elt F)} {X : FVec F S32768x64 .f32} {C : FVec F S4x1024x64 .f32}

theorem level_results (h : ∀ op ∈ ops (F := F), op.result W = W) (k : Fin 4) :
    get W (levelB k).v27 = quantOf (get W (levelX k)) (get W (levelC k))
      ∧ get W (levelB k).v25 = lossOf (get W (levelX k)) (get W (levelC k))
      ∧ get W (levelB k).call0.v1_1 = idxOf (get W (levelX k)) (get W (levelC k)) := by
  refine get_level fun op hop => h op ?_
  unfold ops
  simp only [List.mem_append]
  fin_cases k
  · exact .inr (.inl hop)
  · exact .inr (.inr (.inr (.inl hop)))
  · exact .inr (.inr (.inr (.inr (.inr (.inl hop)))))
  · exact .inr (.inr (.inr (.inr (.inr (.inr (.inr (.inl hop)))))))

theorem results (h : ∀ op ∈ ops (F := F), op.result W = W) (hX : W (Proc.devRef .tc main_arg0) = X)
    (hC : W (Proc.devRef .tc main_arg1) = C) :
    W (Proc.devRef .tc main_v20) = sumOf X C 4 ∧ W (Proc.devRef .tc main_v27) = meanLoss X C
      ∧ W (Proc.devRef .tc main_v32) = allIdx X C := by
  have l0 := level_results h 0
  have l1 := level_results h 1
  have l2 := level_results h 2
  have l3 := level_results h 3
  unfold ops at h
  simp only [List.forall_mem_append] at h
  obtain ⟨h0, -, h1, -, h2, -, h3, -, h4⟩ := h
  unfold hostOps0 at h0
  unfold hostOps1 at h1
  unfold hostOps2 at h2
  unfold hostOps3 at h3
  unfold hostOps4 at h4
  simp only [List.forall_mem_cons] at h0 h1 h2 h3 h4
  obtain ⟨a0, a1, a2, a3, -⟩ := h0
  obtain ⟨b0, b1, b2, b3, -⟩ := h1
  obtain ⟨c0, c1, c2, c3, -⟩ := h2
  obtain ⟨d0, d1, d2, d3, -⟩ := h3
  obtain ⟨e0, e1, e2, e3, e4, e5, e6, e7, e8, e9, e10, e11, e12, e13, e14, e15, -⟩ := h4
  -- the codebooks
  have B0 : get W (levelC 0) = bookOf C 0 := by
    refine (at_reshape a3).trans ?_; rw [at_unary a2, hC]; rfl
  have B1 : get W (levelC 1) = bookOf C 1 := by
    refine (at_reshape b3).trans ?_; rw [at_unary b2, hC]; rfl
  have B2 : get W (levelC 2) = bookOf C 2 := by
    refine (at_reshape c3).trans ?_; rw [at_unary c2, hC]; rfl
  have B3 : get W (levelC 3) = bookOf C 3 := by
    refine (at_reshape d3).trans ?_; rw [at_unary d2, hC]; rfl
  -- the rows left and the sums
  have R0 : get W (levelX 0) = leftOf X C 0 := hX
  rw [B0, R0] at l0
  have Q0 : W (Proc.devRef .tc main_v3_0) = quantOf (leftOf X C 0) (bookOf C 0) := l0.1
  have S0 : W (Proc.devRef .tc main_v0) = sumOf X C 0 := by rw [at_unary a1, at_nullary a0]; rfl
  have S1 : W (Proc.devRef .tc main_v5) = sumOf X C 1 := by rw [at_binary b1, S0, Q0]; rfl
  have R1 : get W (levelX 1) = leftOf X C 1 := by refine (at_binary b0).trans ?_; rw [Q0, hX]; rfl
  rw [B1, R1] at l1
  have Q1 : W (Proc.devRef .tc main_v8_0) = quantOf (leftOf X C 1) (bookOf C 1) := l1.1
  have S2 : W (Proc.devRef .tc main_v10) = sumOf X C 2 := by rw [at_binary c1, S1, Q1]; rfl
  have R2 : get W (levelX 2) = leftOf X C 2 := by
    refine (at_binary c0).trans ?_; rw [Q1, show W (Proc.devRef .tc main_v4) = leftOf X C 1 from R1]; rfl
  rw [B2, R2] at l2
  have Q2 : W (Proc.devRef .tc main_v13_0) = quantOf (leftOf X C 2) (bookOf C 2) := l2.1
  have S3 : W (Proc.devRef .tc main_v15) = sumOf X C 3 := by rw [at_binary d1, S2, Q2]; rfl
  have R3 : get W (levelX 3) = leftOf X C 3 := by
    refine (at_binary d0).trans ?_; rw [Q2, show W (Proc.devRef .tc main_v9) = leftOf X C 2 from R2]; rfl
  rw [B3, R3] at l3
  have Q3 : W (Proc.devRef .tc main_v18_0) = quantOf (leftOf X C 3) (bookOf C 3) := l3.1
  have L0 : W (Proc.devRef .tc main_v21) = lossAt X C 0 := (at_unary e2).trans (congrArg _ l0.2.1)
  have L1 : W (Proc.devRef .tc main_v22) = lossAt X C 1 := (at_unary e3).trans (congrArg _ l1.2.1)
  have L2 : W (Proc.devRef .tc main_v23) = lossAt X C 2 := (at_unary e4).trans (congrArg _ l2.2.1)
  have L3 : W (Proc.devRef .tc main_v24) = lossAt X C 3 := (at_unary e5).trans (congrArg _ l3.2.1)
  have I0 : W (Proc.devRef .tc main_v28) = idxAt X C 0 := (at_unary e11).trans (congrArg _ l0.2.2)
  have I1 : W (Proc.devRef .tc main_v29) = idxAt X C 1 := (at_unary e12).trans (congrArg _ l1.2.2)
  have I2 : W (Proc.devRef .tc main_v30) = idxAt X C 2 := (at_unary e13).trans (congrArg _ l2.2.2)
  have I3 : W (Proc.devRef .tc main_v31) = idxAt X C 3 := (at_unary e14).trans (congrArg _ l3.2.2)
  refine ⟨?_, ?_, ?_⟩
  · rw [at_binary e1, S3, Q3]; rfl
  · rw [at_binary e10, at_nullary e9, at_binary e8, at_nullary e7, at_nary e6]
    unfold meanLoss
    rw [← L0, ← L1, ← L2, ← L3]
    rfl
  · rw [at_nary e15]
    unfold allIdx
    rw [← I0, ← I1, ← I2, ← I3]
    rfl

end Results

end Cert.ReferenceIdeal.Value

end
-- ==== Proof.RefLeast.lean ====
/-
  The reference's arg-min, over the extended reals: the first index of a least distance.
-/
module

public import proofs.«01_k».proof.Proof.RefStages
public import proofs.«01_k».proof.Proof.Least
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe

/-- A pair comes no later than another: a smaller value, or the same value and no greater an index. -/
def NoLater (a b : EReal × BitVec 32) : Prop := a.1 < b.1 ∨ (a.1 = b.1 ∧ a.2.toInt ≤ b.2.toInt)

theorem NoLater.refl (a : EReal × BitVec 32) : NoLater a a := .inr ⟨rfl, le_rfl⟩

theorem NoLater.trans {a b c : EReal × BitVec 32} (h : NoLater a b) (h' : NoLater b c) : NoLater a c := by
  rcases h with h | ⟨h, k⟩ <;> rcases h' with h' | ⟨h', k'⟩
  · exact .inl (h.trans h')
  · exact .inl (h' ▸ h)
  · exact .inl (h ▸ h')
  · exact .inr ⟨h.trans h', k.trans k'⟩

/-- The reducer keeps the earlier of two pairs. -/
theorem reducer_keeps (a b : EReal × BitVec 32) :
    (reducer_argmin_f32_i32 (F := Ideal) a b = a ∧ NoLater a b) ∨ (reducer_argmin_f32_i32 (F := Ideal) a b = b ∧ NoLater b a) := by
  obtain ⟨x, i⟩ := a
  obtain ⟨y, j⟩ := b
  unfold NoLater
  rcases lt_trichotomy x y with h | h | h
  · left
    simp [reducer_argmin_f32_i32, Ideal.cmpf_def, Ideal.cmp, IntOp.ori, IntOp.andi, IntOp.cmpi, Scalar.select, h, h.ne]
  · subst h
    by_cases k : i.slt j = true
    · left
      have := BitVec.slt_iff_toInt_lt.mp k
      simp [reducer_argmin_f32_i32, Ideal.cmpf_def, Ideal.cmp, IntOp.ori, IntOp.andi, IntOp.cmpi, Scalar.select, k]
      omega
    · right
      have : ¬ i.toInt < j.toInt := fun e => k (BitVec.slt_iff_toInt_lt.mpr e)
      simp [reducer_argmin_f32_i32, Ideal.cmpf_def, Ideal.cmp, IntOp.ori, IntOp.andi, IntOp.cmpi, Scalar.select, k]
      omega
  · right
    have h1 : ¬ x < y := not_lt.mpr h.le
    have h2 : x ≠ y := ne_of_gt h
    simp [reducer_argmin_f32_i32, Ideal.cmpf_def, Ideal.cmp, IntOp.ori, IntOp.andi, IntOp.cmpi, Scalar.select, h, h1, h2]

/-- A fold that keeps the earlier of two pairs ends at a pair of the list that is no later than any. -/
theorem foldl_keeps (f : EReal × BitVec 32 → EReal × BitVec 32 → EReal × BitVec 32)
    (hf : ∀ a b, (f a b = a ∧ NoLater a b) ∨ (f a b = b ∧ NoLater b a)) (l : List (EReal × BitVec 32)) :
    ∀ a, (l.foldl f a = a ∨ l.foldl f a ∈ l) ∧ NoLater (l.foldl f a) a ∧ ∀ q ∈ l, NoLater (l.foldl f a) q := by
  induction l with
  | nil => intro a; exact ⟨.inl rfl, .refl a, fun q h => absurd h (by simp)⟩
  | cons b l ih =>
    intro a
    rw [List.foldl_cons]
    obtain ⟨h1, h2, h3⟩ := ih (f a b)
    have ha : NoLater (f a b) a ∧ NoLater (f a b) b := by
      rcases hf a b with ⟨e, k⟩ | ⟨e, k⟩
      · rw [e]; exact ⟨.refl _, k⟩
      · rw [e]; exact ⟨k, .refl _⟩
    refine ⟨?_, h2.trans ha.1, fun q hq => ?_⟩
    · rcases h1 with h1 | h1
      · rw [h1]
        rcases hf a b with ⟨e, -⟩ | ⟨e, -⟩
        · exact .inl e
        · rw [e]; exact .inr (List.mem_cons_self ..)
      · exact .inr (List.mem_cons_of_mem _ h1)
    · rcases List.mem_cons.mp hq with e | e
      · rw [e]; exact h2.trans ha.2
      · exact h3 q e

theorem foldl_least (d : Fin 1024 → EReal) (l : List (EReal × BitVec 32))
    (hl : ∀ q, q ∈ l ↔ ∃ k : Fin 1024, q = (d k, BitVec.ofNat 32 k.val)) :
    (l.foldl (reducer_argmin_f32_i32 (F := Ideal)) (⊤, 0#32)).2 = BitVec.ofNat 32 (Spec.leastAt d).val := by
  obtain ⟨h1, h2, h3⟩ := foldl_keeps _ reducer_keeps l (⊤, 0#32)
  generalize l.foldl (reducer_argmin_f32_i32 (F := Ideal)) (⊤, 0#32) = p at h1 h2 h3
  have hk : ∀ k : Fin 1024, NoLater p (d k, BitVec.ofNat 32 k.val) := fun k => h3 _ ((hl _).mpr ⟨k, rfl⟩)
  have key : ∀ k0 : Fin 1024, p.2.toInt = k0.val → (∀ k, p.1 ≤ d k) → d k0 = p.1 → k0 = Spec.leastAt d := by
    intro k0 e1 e2 e3
    refine Spec.eq_leastAt d k0 (fun k' => e3 ▸ e2 k') fun k' hk' => ?_
    rcases hk k' with h | ⟨-, h⟩
    · exact absurd h (not_lt.mpr (e3 ▸ hk'))
    · rw [e1] at h
      change (k0.val : ℤ) ≤ (BitVec.ofNat 32 k'.val).toInt at h
      rw [Spec.toInt_small] at h
      exact Fin.le_def.mpr (by exact_mod_cast h)
  have hle : ∀ k, p.1 ≤ d k := fun k => (hk k).elim le_of_lt fun e => e.1.le
  apply BitVec.eq_of_toInt_eq
  rw [Spec.toInt_small]
  rcases h1 with h1 | h1
  · subst h1
    have e0 : (0 : Fin 1024) = Spec.leastAt d := key 0 (by decide) hle (top_le_iff.mp (hle 0))
    rw [← e0]; decide
  · obtain ⟨k, rfl⟩ := (hl p).mp h1
    have := key k (Spec.toInt_small k) hle rfl
    rw [← this]
    exact Spec.toInt_small k

theorem top_eq : Ideal.ofBits .f32 2139095040#32 = ⊤ := by simp [Ideal.ofBits, Ideal.ieee]

/-- The pairs that a reduction along the second axis folds over. -/
theorem mem_fiber {n0 n1 : ℕ} {α β : Type} (h : (⟨2, ![n0, n1]⟩ : Shape).ReducesTo [1] ⟨1, ![n0]⟩)
    (x : (⟨2, ![n0, n1]⟩ : Shape).Idx → α) (y : (⟨2, ![n0, n1]⟩ : Shape).Idx → β) (i : Fin n0) (q : α × β) :
    q ∈ Host.argReduceFiber x y h (ix1 i) ↔ ∃ k : Fin n1, q = (x (ix2 i k), y (ix2 i k)) := by
  unfold Host.argReduceFiber
  simp only [List.mem_map, List.mem_filter, List.mem_finRange, true_and, decide_eq_true_eq]
  constructor
  · rintro ⟨n, hn, rfl⟩
    obtain ⟨k, hk⟩ := (h.fiber_r2_a1 _ _).mp hn
    exact ⟨k, by rw [← hk]; rfl⟩
  · rintro ⟨k, rfl⟩
    refine ⟨(⟨2, ![n0, n1]⟩ : Shape).rowMajor (ix2 i k), ?_, ?_⟩
    · rw [Equiv.symm_apply_apply]
      exact (h.fiber_r2_a1 _ _).mpr ⟨k, rfl⟩
    · rw [Equiv.symm_apply_apply]

theorem iota_apply (i : Fin 32768) (k : Fin 1024) : iotaInDim S32768x1024 32 1 (ix2 i k) = BitVec.ofNat 32 k.val := by
  pointwise []

/-- The arg-min along the second axis, from the pair of `⊤` and 0. -/
theorem argReduce_least {n0 : ℕ} (h : (⟨2, ![n0, 1024]⟩ : Shape).ReducesTo [1] ⟨1, ![n0]⟩) (hu : 0 < S_.numel)
    (d : FVec Ideal ⟨2, ![n0, 1024]⟩ .f32) (y : IVec ⟨2, ![n0, 1024]⟩ 32) (ix : FVec Ideal S_ .f32) (iy : IVec S_ 32)
    (i : Fin n0) (hy : ∀ k : Fin 1024, y (ix2 i k) = BitVec.ofNat 32 k.val) (hx : ∀ o, ix o = (⊤ : EReal)) (hi : ∀ o, iy o = 0#32) :
    (Host.argReduce (reducer_argmin_f32_i32 (F := Ideal)) d y ix iy h hu (ix1 i)).2
      = BitVec.ofNat 32 (Spec.leastAt fun k => d (ix2 i k)).val := by
  rw [Ideal.argReduce_eq_reduce2, Host.reduce2_eq_foldl_fiber, hx, hi]
  refine foldl_least (fun k => d (ix2 i k)) _ fun q => ?_
  rw [mem_fiber]
  simp only [hy]

/-- `leastOf`'s definition, over any floats. -/
theorem leastOf_eq {F : FTy → Type} [FloatOps F] (d : FVec F S32768x1024 .f32) :
    leastOf d = fun j => (Host.argReduce reducer_argmin_f32_i32 d (iotaInDim S32768x1024 32 1)
      (constant S_ .f32 0x7F800000#32) (constantI S_ 32 0#32) reducesTo_S32768x1024_S32768_d1 h_S_ j).2 := rfl

/-- The arg-min of a row's distances. -/
theorem leastOf_apply (d : FVec Ideal S32768x1024 .f32) (i : Fin 32768) :
    leastOf d (ix1 i) = BitVec.ofNat 32 (Spec.leastAt fun k => d (ix2 i k)).val :=
  (congrFun (leastOf_eq d) (ix1 i)).trans
    (argReduce_least reducesTo_S32768x1024_S32768_d1 h_S_ d _ _ _ i (iota_apply i) (fun _ => top_eq) (fun _ => rfl))

end Cert.ReferenceIdeal.Value

end
-- ==== Proof.RefTake.lean ====
/-
  The reference's take at an index inside the codebook: the code at that index.
-/
module

public import proofs.«01_k».proof.Proof.RefStages
public import proofs.«01_k».proof.Proof.Least
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe

theorem not_negative (k : Fin 1024) : IntOp.cmpi .slt (BitVec.ofNat 32 k.val) 0#32 = 0#1 := by
  have h : ¬ (BitVec.ofNat 32 k.val).slt 0#32 = true := by
    rw [BitVec.slt_iff_toInt_lt, Spec.toInt_small]; simp
  simp [IntOp.cmpi, h]

theorem inside (k : Fin 1024) :
    IntOp.andi (IntOp.cmpi .sge (BitVec.ofNat 32 k.val) 0#32) (IntOp.cmpi .sle (BitVec.ofNat 32 k.val) 1023#32) = 1#1 := by
  have h1 : (0#32).sle (BitVec.ofNat 32 k.val) = true := by
    rw [BitVec.sle_iff_toInt_le, Spec.toInt_small]; simp
  have h2 : (BitVec.ofNat 32 k.val).sle 1023#32 = true := by
    rw [BitVec.sle_iff_toInt_le, Spec.toInt_small]
    have : (1023#32).toInt = 1023 := by decide
    rw [this]; have := k.isLt; omega
  simp [IntOp.cmpi, IntOp.andi, h1, h2]

theorem startOf_apply (s : IVec S32768 32) (i : Fin 32768) (k : Fin 1024) (h : s (ix1 i) = BitVec.ofNat 32 k.val) :
    startOf s (ix2 i 0) = BitVec.ofNat 32 k.val := by
  unfold startOf
  pointwise []
  rw [h, not_negative]
  pointwise []

theorem insideOf_apply (s : IVec S32768x1 32) (i : Fin 32768) (k : Fin 1024) (h : s (ix2 i 0) = BitVec.ofNat 32 k.val) :
    insideOf s (ix1 i) = 1#1 := by
  unfold insideOf
  rw [Host.reduce_eq_fold]
  pointwise []
  have e : ∀ x : Fin 1, s (ix2 i x) = BitVec.ofNat 32 k.val := fun x => by rw [Subsingleton.elim x 0, h]
  simp only [e, inside]
  decide

/-- A gather of whole rows, read at an entry: the row at the start index, read signed and clamped into the operand. -/
theorem gather_rows {N C R w : ℕ} {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (s : IVec ⟨2, ![R, 1]⟩ w) (i : Fin R) (j : Fin C) :
    Host.gather (GatherDims.mk (s := ⟨2, ![N, C]⟩) (si := ⟨2, ![R, 1]⟩) (t := ⟨2, ![R, C]⟩) [1] [0] [] [] [0] 1 ![1, C] wf) x s (ix2 i j)
      = x (ix2 ⟨min (s (ix2 i 0)).toInt.toNat (N - 1), by omega⟩ j) := by
  unfold Host.gather
  congr 1
  set g := GatherDims.mk (s := ⟨2, ![N, C]⟩) (si := ⟨2, ![R, 1]⟩) (t := ⟨2, ![R, C]⟩) [1] [0] [] [] [0] 1 ![1, C] wf with hg
  funext a
  refine Fin.ext ?_
  show g.start (ix2 i j) s a + g.batchCoord (ix2 i j) a + g.offCoord (ix2 i j) a = _
  have h01 : a = 0 ∨ a = 1 := by
    match a with
    | ⟨0, _⟩ => exact Or.inl rfl
    | ⟨1, _⟩ => exact Or.inr rfl
  rw [GatherDims.batchCoord_eq_zero _ _ _ (fun h => by simp [hg] at h)]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ g.startIndexMap from List.mem_singleton.mpr rfl)]
    have hsi : g.siIdx (ix2 i j) ⟨List.idxOf (0 : Fin 2) g.startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · unfold GatherDims.start
    rw [dif_neg (show (1 : Fin 2) ∉ g.startIndexMap by simp [hg])]
    simp only [Nat.zero_add]
    rfl

/-- The take's gather, over any floats. -/
theorem gather_apply {F : FTy → Type} [FloatOps F] (b : FVec F S1024x64 .f32) (s : IVec S32768x1 32) (i : Fin 32768) (j : Fin 64) :
    Host.gather gather_S1024x64_S32768x1_S32768x64_1_0_n_n_0_1_164 b s (ix2 i j)
      = b (ix2 ⟨min (s (ix2 i 0)).toInt.toNat (1024 - 1), by omega⟩ j) :=
  gather_rows (by decide) gather_S1024x64_S32768x1_S32768x64_1_0_n_n_0_1_164_wf b s i j

/-- The take at an index inside the codebook. -/
theorem takeOf_apply {F : FTy → Type} [FloatOps F] (b : FVec F S1024x64 .f32) (s : IVec S32768x1 32) (i : Fin 32768)
    (j : Fin 64) (k : Fin 1024) (h : s (ix2 i 0) = BitVec.ofNat 32 k.val) : takeOf b s (ix2 i j) = b (ix2 k j) := by
  have hk : (⟨min (s (ix2 i 0)).toInt.toNat (1024 - 1), by omega⟩ : Fin 1024) = k := by
    apply Fin.ext
    show min (s (ix2 i 0)).toInt.toNat (1024 - 1) = k.val
    rw [h, Spec.toInt_small]; have := k.isLt; omega
  have hg := gather_apply b s i j
  rw [hk] at hg
  have hi := insideOf_apply s i k h
  unfold takeOf
  generalize Host.gather gather_S1024x64_S32768x1_S32768x64_1_0_n_n_0_1_164 b s = G at hg ⊢
  generalize insideOf s = I at hi ⊢
  pointwise []
  rw [hi, hg]
  pointwise []

end Cert.ReferenceIdeal.Value

end
-- ==== Proof.RefLevel.lean ====
/-
  A level of the reference at an entry, over the extended reals.
-/
module

public import proofs.«01_k».proof.Proof.RefChain
public import proofs.«01_k».proof.Proof.RefLeast
public import proofs.«01_k».proof.Proof.RefTake
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe

/-- A row of an array. -/
def rowAt (r : FVec Ideal S32768x64 .f32) (i : Fin 32768) : Spec.Row := fun j => r (ix2 i j)

/-- The codes of a codebook. -/
def codesAt (b : FVec Ideal S1024x64 .f32) : Spec.Book := fun k j => b (ix2 k j)

theorem bookOf_apply (C : FVec Ideal S4x1024x64 .f32) (n : Fin 4) (k : Fin 1024) (j : Fin 64) :
    bookOf C n (ix2 k j) = C (ix3 n k j) := by
  unfold bookOf
  fin_cases n
  · pointwise []
  · pointwise []
  · pointwise []
  · pointwise []

theorem two_eq : Ideal.ofBits .f32 1073741824#32 = 2 := by
  simp [Ideal.ofBits, Ideal.ieee, -EReal.coe_mul]; norm_num; rfl

theorem two_mul_sum {ι : Type} (s : Finset ι) (f g : ι → EReal) : ∑ j ∈ s, 2 * f j * g j = 2 * ∑ j ∈ s, f j * g j := by
  classical
  have h0 : (0 : EReal) ≤ 2 := by norm_num
  have ht : (2 : EReal) ≠ ⊤ := EReal.coe_ne_top 2
  induction s using Finset.induction_on with
  | empty => simp
  | insert a s ha ih =>
    rw [Finset.sum_insert ha, Finset.sum_insert ha, ih, EReal.left_distrib_of_nonneg_of_ne_top h0 ht, mul_assoc]

theorem distOf_apply (r : FVec Ideal S32768x64 .f32) (b : FVec Ideal S1024x64 .f32) (i : Fin 32768) (k : Fin 1024) :
    distOf r b (ix2 i k) = Spec.rowDist (rowAt r i) (codesAt b) k := by
  unfold distOf Spec.rowDist Spec.sq rowAt codesAt
  pointwise []
  rw [two_eq, two_mul_sum]

/-- A level's indices are the rows' indices of the nearest codes. -/
theorem idxOf_apply (r : FVec Ideal S32768x64 .f32) (b : FVec Ideal S1024x64 .f32) (i : Fin 32768) :
    idxOf r b (ix1 i) = BitVec.ofNat 32 (Spec.rowIdx (rowAt r i) (codesAt b)).val := by
  unfold idxOf
  rw [leastOf_apply]
  simp only [distOf_apply]
  rfl

/-- A level's codes are the nearest ones. -/
theorem codesOf_apply (r : FVec Ideal S32768x64 .f32) (b : FVec Ideal S1024x64 .f32) (i : Fin 32768) (j : Fin 64) :
    codesOf r b (ix2 i j) = Spec.rowCode (rowAt r i) (codesAt b) j := by
  unfold codesOf
  rw [takeOf_apply b _ i j _ (startOf_apply _ i _ (idxOf_apply r b i))]
  rfl

/-- A level's quantised rows: the row and the step to its code. -/
theorem quantOf_apply (r : FVec Ideal S32768x64 .f32) (b : FVec Ideal S1024x64 .f32) (i : Fin 32768) (j : Fin 64) :
    quantOf r b (ix2 i j) = rowAt r i j + (Spec.rowCode (rowAt r i) (codesAt b) j - rowAt r i j) := by
  unfold quantOf
  rw [← codesOf_apply]
  rfl

/-- The mean square of an array. -/
theorem meanOf_apply (e : FVec Ideal S32768x64 .f32) (o : S_.Idx) :
    meanOf e o = Ideal.div (∑ i : Fin 32768, ∑ j : Fin 64, e (ix2 i j) * e (ix2 i j)) (Ideal.ofBits .f32 0x4A000000#32) := by
  unfold meanOf
  pointwise []

end Cert.ReferenceIdeal.Value

end
-- ==== Proof.Telescope.lean ====
/-
  The extended real arithmetic by which the two programs' results agree.
-/
module

public import proofs.«01_k».proof.Proof.Spec
public import Idealize.ShloMosaic.PureOps.Ideal

@[expose] public section

noncomputable section

namespace Cert.Telescope

open Idealize.ShloMosaic

/-- Taking away a value and the correction to `q` leaves the difference to `q`. -/
theorem rest_step (r : EReal) (q : ℝ) : r - (r + ((q : EReal) - r)) = r - (q : EReal) := by
  induction r using EReal.rec with
  | bot => simp
  | top => simp
  | coe a => norm_cast; ring_nf

/-- The first level's part of the telescoping sum. -/
theorem sum_first (x : EReal) (q : ℝ) : 0 + (x + ((q : EReal) - x)) = x - (x - (q : EReal)) := by
  induction x using EReal.rec with
  | bot => simp
  | top => simp
  | coe a => norm_cast; ring_nf

/-- A later level's part of the telescoping sum, what is left being `x` less a real number. -/
theorem sum_step (x : EReal) (t q : ℝ) :
    (x - (x - (t : EReal))) + ((x - (t : EReal)) + ((q : EReal) - (x - (t : EReal)))) = x - ((x - (t : EReal)) - (q : EReal)) := by
  induction x using EReal.rec with
  | bot => simp
  | top => simp
  | coe a => norm_cast; ring_nf

/-- What is left stays `x` less a real number. -/
theorem rest_real (x : EReal) (t q : ℝ) : (x - (t : EReal)) - (q : EReal) = x - ((t + q : ℝ) : EReal) := by
  induction x using EReal.rec with
  | bot => simp
  | top => simp [-EReal.coe_add]
  | coe a => norm_cast; ring_nf

theorem div_real (x : EReal) {c : ℝ} (hc : c ≠ 0) : Ideal.div x (c : EReal) = x * ((c⁻¹ : ℝ) : EReal) := by
  unfold Ideal.div
  rw [if_neg (by exact_mod_cast hc), EReal.coe_inv]

theorem sum_mul {ι : Type} (t : Finset ι) (s : ι → EReal) (hs : ∀ n, 0 ≤ s n) (k : EReal) :
    (∑ n ∈ t, s n * k) = (∑ n ∈ t, s n) * k := by
  classical
  induction t using Finset.induction_on with
  | empty => simp
  | insert a u ha ih =>
    rw [Finset.sum_insert ha, Finset.sum_insert ha, ih, EReal.right_distrib_of_nonneg (hs a) (Finset.sum_nonneg fun n _ => hs n)]

theorem loss_level (s : EReal) (hs : 0 ≤ s) (k q : ℝ) (hk : 0 ≤ k) (hq : 0 ≤ q) :
    s * (k : EReal) + (q : EReal) * (s * (k : EReal)) = s * (((1 + q) * k : ℝ) : EReal) := by
  have h0 : (0 : EReal) ≤ s * (k : EReal) := mul_nonneg hs (by exact_mod_cast hk)
  have h1 : (q : EReal) * (s * (k : EReal)) = s * (((q * k : ℝ)) : EReal) := by
    rw [mul_left_comm, EReal.coe_mul]
  rw [h1, ← EReal.left_distrib_of_nonneg (by exact_mod_cast hk) (by exact_mod_cast mul_nonneg hq hk), ← EReal.coe_add]
  congr 2
  ring

/-- The mean of the levels' losses is the scaled sum of their squared errors. -/
theorem loss_mean {ι : Type} (t : Finset ι) (s : ι → EReal) (hs : ∀ n, 0 ≤ s n) :
    Ideal.div (∑ n ∈ t, (Ideal.div (s n) ((2097152 : ℝ) : EReal) + ((1 / 4 : ℝ) : EReal) * Ideal.div (s n) ((2097152 : ℝ) : EReal)))
        ((4 : ℝ) : EReal)
      = Ideal.div (((5 / 4 : ℝ) : EReal) * ∑ n ∈ t, s n) ((8388608 : ℝ) : EReal) := by
  have h : ∀ n, Ideal.div (s n) ((2097152 : ℝ) : EReal) + ((1 / 4 : ℝ) : EReal) * Ideal.div (s n) ((2097152 : ℝ) : EReal)
      = s n * (((1 + 1 / 4) * (2097152 : ℝ)⁻¹ : ℝ) : EReal) := fun n => by
    rw [div_real _ (by norm_num), loss_level _ (hs n) _ _ (by norm_num) (by norm_num)]
  rw [Finset.sum_congr rfl fun n _ => h n, sum_mul t s hs, div_real _ (by norm_num), div_real _ (by norm_num), mul_assoc,
    ← EReal.coe_mul, mul_comm (((5 / 4 : ℝ) : EReal)), mul_assoc (∑ n ∈ t, s n) ((5 / 4 : ℝ) : EReal), ← EReal.coe_mul]
  congr 2
  norm_num

theorem mul_self_nonneg (x : EReal) : 0 ≤ x * x := by
  induction x using EReal.rec with
  | bot => simp
  | top => simp
  | coe a => exact_mod_cast _root_.mul_self_nonneg a

theorem rowErr_nonneg (r : Spec.Row) (b : Spec.Book) : 0 ≤ Spec.rowErr r b :=
  Finset.sum_nonneg fun _ _ => mul_self_nonneg _

end Cert.Telescope

end
-- ==== Proof.RefResult.lean ====
/-
  The reference's results at an entry, over the extended reals, for codebooks of real numbers.
-/
module

public import proofs.«01_k».proof.Proof.RefLevel
public import proofs.«01_k».proof.Proof.Telescope

@[expose] public section

set_option maxRecDepth 16384

noncomputable section

namespace Cert.ReferenceIdeal.Value

open Cert.ReferenceIdeal Cert.ReferenceIdeal.Gen
open Idealize.ShloMosaic Idealize.ShloMosaic.TcCoe

/-- The four codebooks. -/
def booksOf (C : FVec Ideal S4x1024x64 .f32) : Fin 4 → Spec.Book := fun n k j => C (ix3 n k j)

/-- Every code's entry is a real number. -/
def RealBooks (bs : Fin 4 → Spec.Book) : Prop := ∀ n k j, ∃ a : ℝ, bs n k j = (a : EReal)

theorem codesAt_bookOf (C : FVec Ideal S4x1024x64 .f32) (n : Fin 4) : codesAt (bookOf C n) = booksOf C n :=
  funext fun k => funext fun j => bookOf_apply C n k j

section Chain

variable (X : FVec Ideal S32768x64 .f32) (C : FVec Ideal S4x1024x64 .f32) (hC : RealBooks (booksOf C))

theorem quant_apply (n : ℕ) (b : Fin 4) (i : Fin 32768) (j : Fin 64) :
    quantOf (leftOf X C n) (bookOf C b) (ix2 i j)
      = rowAt (leftOf X C n) i j + (Spec.rowCode (rowAt (leftOf X C n) i) (booksOf C b) j - rowAt (leftOf X C n) i j) := by
  rw [quantOf_apply, codesAt_bookOf]

include hC in
theorem leftOf_row (n : ℕ) (i : Fin 32768) : rowAt (leftOf X C n) i = Spec.rowRest (rowAt X i) (booksOf C) n := by
  induction n with
  | zero => rfl
  | succ n ih =>
    funext j
    have h : rowAt (leftOf X C (n + 1)) i j
        = rowAt (leftOf X C n) i j - quantOf (leftOf X C n) (bookOf C (Fin.ofNat 4 n)) (ix2 i j) := rfl
    rw [h, quant_apply, ih]
    obtain ⟨q, hq⟩ := hC (Fin.ofNat 4 n) (Spec.rowIdx (Spec.rowRest (rowAt X i) (booksOf C) n) (booksOf C (Fin.ofNat 4 n))) j
    have hq' : Spec.rowCode (Spec.rowRest (rowAt X i) (booksOf C) n) (booksOf C (Fin.ofNat 4 n)) j = (q : EReal) := hq
    show _ = Spec.rowRest (rowAt X i) (booksOf C) n j - Spec.rowCode _ _ j
    rw [hq']
    exact Telescope.rest_step _ q

theorem rest_offset (x : Spec.Row) (bs : Fin 4 → Spec.Book) (h : RealBooks bs) (n : ℕ) (j : Fin 64) :
    ∃ t : ℝ, Spec.rowRest x bs n j = x j - (t : EReal) := by
  induction n with
  | zero => exact ⟨0, by simp [Spec.rowRest]⟩
  | succ n ih =>
    obtain ⟨t, ht⟩ := ih
    obtain ⟨q, hq⟩ := h (Fin.ofNat 4 n) (Spec.rowIdx (Spec.rowRest x bs n) (bs (Fin.ofNat 4 n))) j
    refine ⟨t + q, ?_⟩
    rw [← Telescope.rest_real, ← ht, ← hq]
    rfl

include hC in
theorem sumOf_apply (n : ℕ) (i : Fin 32768) (j : Fin 64) :
    sumOf X C (n + 1) (ix2 i j) = X (ix2 i j) - Spec.rowRest (rowAt X i) (booksOf C) (n + 1) j := by
  have step : ∀ n, sumOf X C (n + 1) (ix2 i j)
      = sumOf X C n (ix2 i j) + quantOf (leftOf X C n) (bookOf C (Fin.ofNat 4 n)) (ix2 i j) := fun _ => rfl
  have hx : X (ix2 i j) = rowAt X i j := rfl
  induction n with
  | zero =>
    obtain ⟨q, hq⟩ := hC (Fin.ofNat 4 0) (Spec.rowIdx (rowAt X i) (booksOf C (Fin.ofNat 4 0))) j
    have hq' : Spec.rowCode (rowAt X i) (booksOf C (Fin.ofNat 4 0)) j = (q : EReal) := hq
    have h0 : sumOf X C 0 (ix2 i j) = 0 := by
      show Ideal.ofBits .f32 0x00000000#32 = 0
      simp [Ideal.ofBits, Ideal.ieee]
    rw [step, h0, quant_apply, leftOf_row X C hC, hx]
    show 0 + (rowAt X i j + (Spec.rowCode (rowAt X i) (booksOf C (Fin.ofNat 4 0)) j - rowAt X i j))
      = rowAt X i j - (rowAt X i j - Spec.rowCode (rowAt X i) (booksOf C (Fin.ofNat 4 0)) j)
    rw [hq']
    exact Telescope.sum_first _ q
  | succ n ih =>
    obtain ⟨t, ht⟩ := rest_offset (rowAt X i) (booksOf C) hC (n + 1) j
    obtain ⟨q, hq⟩ := hC (Fin.ofNat 4 (n + 1))
      (Spec.rowIdx (Spec.rowRest (rowAt X i) (booksOf C) (n + 1)) (booksOf C (Fin.ofNat 4 (n + 1)))) j
    have hq' : Spec.rowCode (Spec.rowRest (rowAt X i) (booksOf C) (n + 1)) (booksOf C (Fin.ofNat 4 (n + 1))) j = (q : EReal) := hq
    have hs : Spec.rowRest (rowAt X i) (booksOf C) (n + 1 + 1) j
        = Spec.rowRest (rowAt X i) (booksOf C) (n + 1) j
          - Spec.rowCode (Spec.rowRest (rowAt X i) (booksOf C) (n + 1)) (booksOf C (Fin.ofNat 4 (n + 1))) j := rfl
    rw [step, ih, quant_apply, leftOf_row X C hC, hs, hq', ht, hx]
    exact Telescope.sum_step _ t q

theorem column_apply (w : IVec S32768 32) (i : Fin 32768) :
    broadcastInDim S32768x1 ![0] bcast_S32768_S32768x1_0 w (ix2 i 0) = w (ix1 i) := by
  pointwise []

theorem idxAt_column (n : Fin 4) (i : Fin 32768) : idxAt X C n (ix2 i 0) = idxOf (leftOf X C n.val) (bookOf C n) (ix1 i) :=
  column_apply _ i

include hC in
theorem idxAt_apply (n : Fin 4) (i : Fin 32768) :
    idxAt X C n (ix2 i 0) = BitVec.ofNat 32 (Spec.idxAt (rowAt X i) (booksOf C) n.val).val := by
  have hn : Fin.ofNat 4 n.val = n := Fin.ext (Nat.mod_eq_of_lt n.isLt)
  refine (idxAt_column X C n i).trans ((idxOf_apply _ _ i).trans ?_)
  have h : Spec.rowIdx (rowAt (leftOf X C n.val) i) (codesAt (bookOf C n))
      = Spec.idxAt (rowAt X i) (booksOf C) n.val := by
    unfold Spec.idxAt
    rw [hn, codesAt_bookOf, leftOf_row X C hC]
  rw [h]

theorem allIdx_columns (l : Fin 4) (i : Fin 32768) : allIdx X C (ix2 i l) = idxAt X C l (ix2 i 0) := by
  unfold allIdx
  generalize idxAt X C = w
  fin_cases l <;> pointwise []

include hC in
theorem allIdx_apply (l : Fin 4) (i : Fin 32768) :
    allIdx X C (ix2 i l) = BitVec.ofNat 32 (Spec.idxAt (rowAt X i) (booksOf C) l.val).val :=
  (allIdx_columns X C l i).trans (idxAt_apply X C hC l i)

theorem lossOf_eq {F : FTy → Type} [FloatOps F] (r : FVec F S32768x64 .f32) (b : FVec F S1024x64 .f32) :
    lossOf r b = addf (meanOf (subf (codesOf r b) r))
      (mulf (constant S_ .f32 0x3E800000#32) (meanOf (subf (codesOf r b) r))) := rfl

include hC in
theorem lossOf_apply (n : Fin 4) (o : S_.Idx) :
    lossOf (leftOf X C n.val) (bookOf C n) o
      = Ideal.div (∑ i, Spec.errAt (rowAt X i) (booksOf C) n.val) (Ideal.ofBits .f32 0x4A000000#32)
        + Ideal.ofBits .f32 0x3E800000#32
          * Ideal.div (∑ i, Spec.errAt (rowAt X i) (booksOf C) n.val) (Ideal.ofBits .f32 0x4A000000#32) := by
  have hn : Fin.ofNat 4 n.val = n := Fin.ext (Nat.mod_eq_of_lt n.isLt)
  have he : ∀ i j, subf (codesOf (leftOf X C n.val) (bookOf C n)) (leftOf X C n.val) (ix2 i j)
      = Spec.rowCode (rowAt (leftOf X C n.val) i) (booksOf C n) j - rowAt (leftOf X C n.val) i j := fun i j => by
    rw [← codesAt_bookOf, ← codesOf_apply]
    rfl
  have hm : meanOf (subf (codesOf (leftOf X C n.val) (bookOf C n)) (leftOf X C n.val)) o
      = Ideal.div (∑ i, Spec.errAt (rowAt X i) (booksOf C) n.val) (Ideal.ofBits .f32 0x4A000000#32) := by
    rw [meanOf_apply]
    have hr : ∀ i, (∑ j, subf (codesOf (leftOf X C n.val) (bookOf C n)) (leftOf X C n.val) (ix2 i j)
        * subf (codesOf (leftOf X C n.val) (bookOf C n)) (leftOf X C n.val) (ix2 i j)) = Spec.errAt (rowAt X i) (booksOf C) n.val := fun i => by
      unfold Spec.errAt Spec.rowErr
      rw [hn, ← leftOf_row X C hC]
      exact Finset.sum_congr rfl fun j _ => by rw [he]
    rw [Finset.sum_congr rfl fun i _ => hr i]
  rw [← hm, lossOf_eq]
  generalize meanOf (subf (codesOf (leftOf X C n.val) (bookOf C n)) (leftOf X C n.val)) = w
  rfl

theorem meanLoss_levels (o : S_.Idx) :
    meanLoss X C o = Ideal.div (∑ n : Fin 4, lossOf (leftOf X C n.val) (bookOf C n) o) (Ideal.ofBits .f32 0x40800000#32) := by
  have h : ∀ n, lossAt X C n (ix1 0) = lossOf (leftOf X C n.val) (bookOf C n) o := fun n => by
    unfold lossAt
    generalize lossOf (leftOf X C n.val) (bookOf C n) = w
    rw [(funext fun a => a.elim0 : o = ix0)]
    pointwise []
  rw [Fin.sum_univ_four, ← h, ← h, ← h, ← h]
  unfold meanLoss
  generalize lossAt X C = w
  pointwise []
  rw [Fin.sum_univ_four]
  rfl

end Chain

end Cert.ReferenceIdeal.Value

end
-- ==== Proof.Meet.lean ====
/-
  The two programs' results are the same arrays, for codebooks of real numbers.
-/
module

public import proofs.«01_k».proof.Proof.KerLevel
public import proofs.«01_k».proof.Proof.RefResult

@[expose] public section

set_option maxRecDepth 16384

noncomputable section

namespace Cert.Meet

open Idealize.ShloMosaic
open Cert.KernelIdeal.Value (xqArr lossVal idxArr)
open Cert.ReferenceIdeal.Value (sumOf meanLoss allIdx)

theorem count_eq : Ideal.ofBits .f32 0x4A000000#32 = ((2097152 : ℝ) : EReal) := by
  simp [Ideal.ofBits, Ideal.ieee, -EReal.coe_mul]; norm_num

theorem quarter_eq : Ideal.ofBits .f32 0x3E800000#32 = ((1 / 4 : ℝ) : EReal) := by
  simp [Ideal.ofBits, Ideal.ieee, -EReal.coe_mul]; norm_num

theorem levels_eq : Ideal.ofBits .f32 0x40800000#32 = ((4 : ℝ) : EReal) := by
  simp [Ideal.ofBits, Ideal.ieee, -EReal.coe_mul]; norm_num

theorem weight_eq : Ideal.ofBits .f32 0x3FA00000#32 = ((5 / 4 : ℝ) : EReal) := by
  simp [Ideal.ofBits, Ideal.ieee, -EReal.coe_mul]; norm_num

theorem total_eq : Ideal.ofBits .f32 0x4B000000#32 = ((8388608 : ℝ) : EReal) := by
  simp [Ideal.ofBits, Ideal.ieee, -EReal.coe_mul]

section

variable (x : Vec Ideal KernelIdeal.S32768x64 .f32) (cb : Vec Ideal KernelIdeal.S4x1024x64 .f32) (h : KernelIdeal.Value.Fin4 cb)

include h in
theorem real_books : ReferenceIdeal.Value.RealBooks (ReferenceIdeal.Value.booksOf cb) := fun _ _ _ => h _

include h in
theorem xq_eq : xqArr (F := Ideal) x cb = sumOf (F := Ideal) x cb 4 := by
  funext o
  obtain ⟨i, j, rfl⟩ : ∃ i j, o = ix2 i j := ⟨_, _, eq_ix2 o⟩
  exact (KernelIdeal.Value.xqArr_apply x cb h i j).trans
    (ReferenceIdeal.Value.sumOf_apply x cb (real_books cb h) 3 i j).symm

include h in
theorem idx_eq : idxArr (F := Ideal) x cb = allIdx (F := Ideal) x cb := by
  funext o
  obtain ⟨i, l, rfl⟩ : ∃ i l, o = ix2 i l := ⟨_, _, eq_ix2 o⟩
  exact (KernelIdeal.Value.idxArr_apply x cb h i l).trans
    (ReferenceIdeal.Value.allIdx_apply x cb (real_books cb h) l i).symm

include h in
theorem loss_eq : lossVal (F := Ideal) x cb = meanLoss (F := Ideal) x cb := by
  funext o
  refine (KernelIdeal.Value.lossVal_apply x cb h o).trans ?_
  rw [ReferenceIdeal.Value.meanLoss_levels,
    Finset.sum_congr rfl fun n _ => ReferenceIdeal.Value.lossOf_apply x cb (real_books cb h) n o,
    count_eq, quarter_eq, levels_eq, weight_eq, total_eq]
  refine Eq.trans ?_ (Telescope.loss_mean Finset.univ
    (fun n : Fin 4 => ∑ i, Spec.errAt (ReferenceIdeal.Value.rowAt x i) (ReferenceIdeal.Value.booksOf cb) n.val)
    fun n => Finset.sum_nonneg fun i _ => Telescope.rowErr_nonneg _ _).symm
  unfold KernelIdeal.Value.totalErr
  rw [Finset.sum_range]
  rfl

end

end Cert.Meet

end
-- ==== Proof.Finite.lean ====
/-
  What the precondition says of the codebooks: every entry is a real number.
-/
module

public import proofs.«01_k».proof.Pre_finite_codebooks
public import proofs.«01_k».proof.Proof.Gen.KernelIdeal
public import Idealize.ShloMosaic.PureOps.Ideal

@[expose] public section

noncomputable section

namespace Cert.Finite

open Idealize.ShloMosaic

theorem facts : Cert.Pre_finite_codebooks.Facts where
  bcast_S_S4x1024x64 := by decide

theorem infinity_eq : Ideal.ofBits .f32 0x7F800000#32 = ⊤ := by simp [Ideal.ofBits, Ideal.ieee]

/-- An extended real whose absolute value is below infinity is a real number. -/
theorem real_of_abs_lt (x : EReal) (h : max x (-x) < ⊤) : ∃ a : ℝ, x = (a : EReal) := by
  induction x using EReal.rec with
  | bot => simp at h
  | top => simp at h
  | coe a => exact ⟨a, rfl⟩

theorem real_of_pre [Cert.Pre_finite_codebooks.Facts] (x : FVec Ideal Cert.Pre_finite_codebooks.S32768x64 .f32)
    (cb : FVec Ideal Cert.Pre_finite_codebooks.S4x1024x64 .f32)
    (h : Cert.Pre_finite_codebooks.fn (F := Ideal) x cb = fun _ => 1#1) (i : Cert.Pre_finite_codebooks.S4x1024x64.Idx) :
    ∃ a : ℝ, cb i = (a : EReal) := by
  have hi : BitVec.ofBool (decide (max (cb i : EReal) (-(cb i : EReal)) < Ideal.ofBits .f32 0x7F800000#32)) = 1#1 := congrFun h i
  rw [infinity_eq] at hi
  refine real_of_abs_lt (cb i) ?_
  by_contra hn
  rw [decide_eq_false hn] at hi
  exact absurd hi (by decide)

end Cert.Finite

end
-- ==== Proof.lean ====
/-
  The proof of the claims: the frames of the three programs, and that the kernel and the reference
  compute the same results over the extended reals.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Meet
public import proofs.«01_k».proof.Proof.Finite
public import proofs.«01_k».proof.Proof.RefRun
public import Idealize.ShloMosaic.Lib.Quiescent

@[expose] public section

noncomputable section

namespace Cert.Proof

open Idealize.ShloMosaic Idealize.SL.Sem

section Reference

open Cert.ReferenceIdeal Cert.ReferenceIdeal.Value

/-- A run of the reference leaves the arguments as they were. -/
theorem reference_args (m : (ℓ : Loc nD τ sig) → Buf (Elt Ideal) ℓ) (c : Dev nD) :
    final m c (Proc.devRef .tc main_arg0) = m ((c.tc : Thread nD τ).loc main_arg0)
      ∧ final m c (Proc.devRef .tc main_arg1) = m ((c.tc : Thread nD τ).loc main_arg1) :=
  ⟨final_arg m c main_arg0 (by decide), final_arg m c main_arg1 (by decide)⟩

theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r hr => ⟨fun c => ⟨(hr c main_arg0).trans (reference_args m c).1, (hr c main_arg1).trans (reference_args m c).2⟩,
    sem_eq_zero_of_no_sems (by decide) r.2⟩) (Value.run m g)

/-- The rows as the reference is given them. -/
def rowsOf (m : (ℓ : Loc nD τ sig) → Buf (Elt Ideal) ℓ) (c : Dev nD) : FVec Ideal S32768x64 .f32 :=
  m ((c.tc : Thread nD τ).loc main_arg0)

/-- The codebooks as the reference is given them. -/
def codesOf (m : (ℓ : Loc nD τ sig) → Buf (Elt Ideal) ℓ) (c : Dev nD) : FVec Ideal S4x1024x64 .f32 :=
  m ((c.tc : Thread nD τ).loc main_arg1)

theorem reference_results (m : (ℓ : Loc nD τ sig) → Buf (Elt Ideal) ℓ) (c : Dev nD) :
    final m c (Proc.devRef .tc main_v20) = sumOf (rowsOf m c) (codesOf m c) 4
      ∧ final m c (Proc.devRef .tc main_v27) = meanLoss (rowsOf m c) (codesOf m c)
      ∧ final m c (Proc.devRef .tc main_v32) = allIdx (rowsOf m c) (codesOf m c) :=
  Value.results (final_settled m c) (reference_args m c).1 (reference_args m c).2

end Reference

theorem same_results : algebraic_KernelIdeal_ReferenceIdeal_pre_finite_codebooks (hKernelIdeal := Cert.KernelIdeal.Gen.facts)
    (hReferenceIdeal := Cert.ReferenceIdeal.Gen.facts) (hPre_finite_codebooks := Finite.facts) := by
  intro m g m' g' hp ha
  have hx : ∀ c, rowsOf m' c = KernelIdeal.Value.argX m c := fun c => (ha c).1
  have hc : ∀ c, codesOf m' c = KernelIdeal.Value.argC m c := fun c => (ha c).2
  have hf : ∀ c, KernelIdeal.Value.Fin4 (KernelIdeal.Value.argC m c) := fun c i =>
    haveI := Finite.facts
    Finite.real_of_pre _ _ (hp c) i
  refine ⟨fun c => KernelIdeal.Value.xqArr (KernelIdeal.Value.argX m c) (KernelIdeal.Value.argC m c),
    fun c => KernelIdeal.Value.lossVal (KernelIdeal.Value.argX m c) (KernelIdeal.Value.argC m c),
    fun c => KernelIdeal.Value.idxArr (KernelIdeal.Value.argX m c) (KernelIdeal.Value.argC m c), ?_, ?_⟩
  · exact (θ_run KernelIdeal.defs _ _).mono (fun r hr c => ⟨(hr c).1.1, (hr c).1.2.1, (hr c).1.2.2, (hr c).2.1, (hr c).2.2⟩)
      (KernelIdeal.Value.run m g)
  · refine (θ_run ReferenceIdeal.defs _ _).mono (fun r hr c => ?_) (ReferenceIdeal.Value.run m' g')
    have h := reference_results m' c
    rw [hx, hc] at h
    exact ⟨(hr c ReferenceIdeal.main_v20).trans (h.1.trans (Meet.xq_eq _ _ (hf c)).symm),
      (hr c ReferenceIdeal.main_v27).trans (h.2.1.trans (Meet.loss_eq _ _ (hf c)).symm),
      (hr c ReferenceIdeal.main_v32).trans (h.2.2.trans (Meet.idx_eq _ _ (hf c)).symm),
      (hr c ReferenceIdeal.main_arg0).trans (reference_args m' c).1, (hr c ReferenceIdeal.main_arg1).trans (reference_args m' c).2⟩

theorem claim : Cert.Claim := ⟨Cert.Kernel.Gen.facts, Cert.KernelIdeal.Gen.facts, Cert.ReferenceIdeal.Gen.facts, Finite.facts,
  fun m g _ => Cert.Kernel.Gen.frame m g, fun m g _ => Cert.KernelIdeal.Gen.frame m g, fun m g _ => Cert.KernelIdeal.Gen.frame m g,
  fun m g _ => reference_frame m g, fun m g _ => reference_frame m g, trivial, same_results⟩

end Cert.Proof

end
